-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![16, 128, 256]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 256]⟩ ⟨2, ![256, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x16 : Shape := ⟨2, ![128, 16]⟩
abbrev S256x1 : Shape := ⟨2, ![256, 1]⟩
abbrev S2x128x256 : Shape := ⟨3, ![2, 128, 256]⟩
abbrev S128x256 : Shape := ⟨2, ![128, 256]⟩
abbrev S32x256 : Shape := ⟨2, ![32, 256]⟩
abbrev S256x256 : Shape := ⟨2, ![256, 256]⟩
abbrev S8x32x256 : Shape := ⟨3, ![8, 32, 256]⟩
abbrev S8 : Shape := ⟨1, ![8]⟩
abbrev S_ : Shape := ⟨0, ![]⟩
abbrev S256x16 : Shape := ⟨2, ![256, 16]⟩
abbrev S256 : Shape := ⟨1, ![256]⟩
abbrev S1x128x256 : Shape := ⟨3, ![1, 128, 256]⟩
abbrev S1 : Shape := ⟨1, ![1]⟩
abbrev S1x32x256 : Shape := ⟨3, ![1, 32, 256]⟩
abbrev S32x128 : Shape := ⟨2, ![32, 128]⟩

abbrev nBuf : Space → Nat
  | .hbm => 6
  | .vmem => 8
  | .smem => 0
  | _ => 0

abbrev bufTy : (tb : Table) → Fin (tcTables nBuf tb) → BufTy
  | .hbm, ⟨0, _⟩ => ⟨S256x128, .f32⟩
  | .hbm, ⟨1, _⟩ => ⟨S128x16, .f32⟩
  | .hbm, ⟨2, _⟩ => ⟨S256x1, .i32⟩
  | .hbm, ⟨3, _⟩ => ⟨S2x128x256, .f32⟩
  | .hbm, ⟨4, _⟩ => ⟨S128x256, .f32⟩
  | .hbm, ⟨5, _⟩ => ⟨S32x256, .f32⟩
  | .local _ .vmem, ⟨0, _⟩ => ⟨S256x128, .f32⟩
  | .local _ .vmem, ⟨1, _⟩ => ⟨S128x16, .f32⟩
  | .local _ .vmem, ⟨2, _⟩ => ⟨S256x1, .i32⟩
  | .local _ .vmem, ⟨3, _⟩ => ⟨S2x128x256, .f32⟩
  | .local _ .vmem, ⟨4, _⟩ => ⟨S128x256, .f32⟩
  | .local _ .vmem, ⟨5, _⟩ => ⟨S32x256, .f32⟩
  | .local _ .vmem, ⟨6, _⟩ => ⟨S256x256, .bf16⟩
  | .local _ .vmem, ⟨7, _⟩ => ⟨S8x32x256, .bf16⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c6_i32_85 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v146 : BitVec 32 := Scalar.addi v2 c6_i32_85
  let c8_i32_86 : BitVec 32 := 8#32
  let c0_i32_87 : BitVec 32 := 0#32
  let v147 : BitVec 1 := Scalar.cmpi .eq c8_i32_86 c0_i32_87
  let c1_i32_88 : BitVec 32 := 1#32
  let v148 : BitVec 32 := Scalar.select v147 c1_i32_88 c8_i32_86
  let v149 : BitVec 32 := Scalar.remsi v146 v148
  let c0_i32_90 : BitVec 32 := 0#32
  let v151 : BitVec 1 := Scalar.cmpi .slt v149 c0_i32_90
  let c0_i32_91 : BitVec 32 := 0#32
  let v152 : BitVec 1 := Scalar.cmpi .slt v148 c0_i32_91
  let v153 : BitVec 1 := Scalar.xori v151 v152
  let c0_i32_89 : BitVec 32 := 0#32
  let v150 : BitVec 1 := Scalar.cmpi .ne v149 c0_i32_89
  let v154 : BitVec 1 := Scalar.andi v153 v150
  let v155 : BitVec 32 := Scalar.addi v149 v148
  let v156 : BitVec 32 := Scalar.select v154 v155 v149
  let c32_i32 : BitVec 32 := 32#32
  let v157 : BitVec 32 := Scalar.muli v156 c32_i32
  let c0_i32_99 : BitVec 32 := 0#32
  ![v157.toNat, 0]
def k0_dev8 (d0 : Dev nD) : Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_85 : BitVec 32 := 6#32
  let v146 : BitVec 32 := Scalar.addi v2 c6_i32_85
  let c8_i32_86 : BitVec 32 := 8#32
  let c0_i32_87 : BitVec 32 := 0#32
  let v147 : BitVec 1 := Scalar.cmpi .eq c8_i32_86 c0_i32_87
  let c1_i32_88 : BitVec 32 := 1#32
  let v148 : BitVec 32 := Scalar.select v147 c1_i32_88 c8_i32_86
  let v149 : BitVec 32 := Scalar.remsi v146 v148
  let c0_i32_90 : BitVec 32 := 0#32
  let v151 : BitVec 1 := Scalar.cmpi .slt v149 c0_i32_90
  let c0_i32_91 : BitVec 32 := 0#32
  let v152 : BitVec 1 := Scalar.cmpi .slt v148 c0_i32_91
  let v153 : BitVec 1 := Scalar.xori v151 v152
  let c0_i32_89 : BitVec 32 := 0#32
  let v150 : BitVec 1 := Scalar.cmpi .ne v149 c0_i32_89
  let v154 : BitVec 1 := Scalar.andi v153 v150
  let v155 : BitVec 32 := Scalar.addi v149 v148
  let v156 : BitVec 32 := Scalar.select v154 v155 v149
  let c1_i32_95 : BitVec 32 := 1#32
  let v158 : BitVec 32 := Scalar.muli v156 c1_i32_95
  let v159 : BitVec 32 := Scalar.addi c0_i32_96 v158
  v159.toNat
def k0_dev9 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_100 : BitVec 32 := 2#32
  let v167 : BitVec 32 := Scalar.addi v2 c2_i32_100
  let c8_i32_101 : BitVec 32 := 8#32
  let c0_i32_102 : BitVec 32 := 0#32
  let v168 : BitVec 1 := Scalar.cmpi .eq c8_i32_101 c0_i32_102
  let c1_i32_103 : BitVec 32 := 1#32
  let v169 : BitVec 32 := Scalar.select v168 c1_i32_103 c8_i32_101
  let v170 : BitVec 32 := Scalar.remsi v167 v169
  let c0_i32_105 : BitVec 32 := 0#32
  let v172 : BitVec 1 := Scalar.cmpi .slt v170 c0_i32_105
  let c0_i32_106 : BitVec 32 := 0#32
  let v173 : BitVec 1 := Scalar.cmpi .slt v169 c0_i32_106
  let v174 : BitVec 1 := Scalar.xori v172 v173
  let c0_i32_104 : BitVec 32 := 0#32
  let v171 : BitVec 1 := Scalar.cmpi .ne v170 c0_i32_104
  let v175 : BitVec 1 := Scalar.andi v174 v171
  let v176 : BitVec 32 := Scalar.addi v170 v169
  let v177 : BitVec 32 := Scalar.select v175 v176 v170
  let c1_i32_111 : BitVec 32 := 1#32
  let v179 : BitVec 32 := Scalar.muli v177 c1_i32_111
  let v180 : BitVec 32 := Scalar.addi c0_i32_112 v179
  v180.toNat
def k0_dev10 (d0 : Dev nD) : Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_116 : BitVec 32 := 5#32
  let v188 : BitVec 32 := Scalar.addi v2 c5_i32_116
  let c8_i32_117 : BitVec 32 := 8#32
  let c0_i32_118 : BitVec 32 := 0#32
  let v189 : BitVec 1 := Scalar.cmpi .eq c8_i32_117 c0_i32_118
  let c1_i32_119 : BitVec 32 := 1#32
  let v190 : BitVec 32 := Scalar.select v189 c1_i32_119 c8_i32_117
  let v191 : BitVec 32 := Scalar.remsi v188 v190
  let c0_i32_121 : BitVec 32 := 0#32
  let v193 : BitVec 1 := Scalar.cmpi .slt v191 c0_i32_121
  let c0_i32_122 : BitVec 32 := 0#32
  let v194 : BitVec 1 := Scalar.cmpi .slt v190 c0_i32_122
  let v195 : BitVec 1 := Scalar.xori v193 v194
  let c0_i32_120 : BitVec 32 := 0#32
  let v192 : BitVec 1 := Scalar.cmpi .ne v191 c0_i32_120
  let v196 : BitVec 1 := Scalar.andi v195 v192
  let v197 : BitVec 32 := Scalar.addi v191 v190
  let v198 : BitVec 32 := Scalar.select v196 v197 v191
  let c1_i32_127 : BitVec 32 := 1#32
  let v200 : BitVec 32 := Scalar.muli v198 c1_i32_127
  let v201 : BitVec 32 := Scalar.addi c0_i32_128 v200
  v201.toNat
def k0_dev11 (d0 : Dev nD) : Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_132 : BitVec 32 := 7#32
  let v209 : BitVec 32 := Scalar.addi v2 c7_i32_132
  let c8_i32_133 : BitVec 32 := 8#32
  let c0_i32_134 : BitVec 32 := 0#32
  let v210 : BitVec 1 := Scalar.cmpi .eq c8_i32_133 c0_i32_134
  let c1_i32_135 : BitVec 32 := 1#32
  let v211 : BitVec 32 := Scalar.select v210 c1_i32_135 c8_i32_133
  let v212 : BitVec 32 := Scalar.remsi v209 v211
  let c0_i32_137 : BitVec 32 := 0#32
  let v214 : BitVec 1 := Scalar.cmpi .slt v212 c0_i32_137
  let c0_i32_138 : BitVec 32 := 0#32
  let v215 : BitVec 1 := Scalar.cmpi .slt v211 c0_i32_138
  let v216 : BitVec 1 := Scalar.xori v214 v215
  let c0_i32_136 : BitVec 32 := 0#32
  let v213 : BitVec 1 := Scalar.cmpi .ne v212 c0_i32_136
  let v217 : BitVec 1 := Scalar.andi v216 v213
  let v218 : BitVec 32 := Scalar.addi v212 v211
  let v219 : BitVec 32 := Scalar.select v217 v218 v212
  let c1_i32_143 : BitVec 32 := 1#32
  let v221 : BitVec 32 := Scalar.muli v219 c1_i32_143
  let v222 : BitVec 32 := Scalar.addi c0_i32_144 v221
  v222.toNat
def k0_dev12 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_148 : BitVec 32 := 4#32
  let v230 : BitVec 32 := Scalar.addi v2 c4_i32_148
  let c8_i32_149 : BitVec 32 := 8#32
  let c0_i32_150 : BitVec 32 := 0#32
  let v231 : BitVec 1 := Scalar.cmpi .eq c8_i32_149 c0_i32_150
  let c1_i32_151 : BitVec 32 := 1#32
  let v232 : BitVec 32 := Scalar.select v231 c1_i32_151 c8_i32_149
  let v233 : BitVec 32 := Scalar.remsi v230 v232
  let c0_i32_153 : BitVec 32 := 0#32
  let v235 : BitVec 1 := Scalar.cmpi .slt v233 c0_i32_153
  let c0_i32_154 : BitVec 32 := 0#32
  let v236 : BitVec 1 := Scalar.cmpi .slt v232 c0_i32_154
  let v237 : BitVec 1 := Scalar.xori v235 v236
  let c0_i32_152 : BitVec 32 := 0#32
  let v234 : BitVec 1 := Scalar.cmpi .ne v233 c0_i32_152
  let v238 : BitVec 1 := Scalar.andi v237 v234
  let v239 : BitVec 32 := Scalar.addi v233 v232
  let v240 : BitVec 32 := Scalar.select v238 v239 v233
  let c1_i32_159 : BitVec 32 := 1#32
  let v242 : BitVec 32 := Scalar.muli v240 c1_i32_159
  let v243 : BitVec 32 := Scalar.addi c0_i32_160 v242
  v243.toNat
def k0_dev13 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_164 : BitVec 32 := 1#32
  let v251 : BitVec 32 := Scalar.addi v2 c1_i32_164
  let c8_i32_165 : BitVec 32 := 8#32
  let c0_i32_166 : BitVec 32 := 0#32
  let v252 : BitVec 1 := Scalar.cmpi .eq c8_i32_165 c0_i32_166
  let c1_i32_167 : BitVec 32 := 1#32
  let v253 : BitVec 32 := Scalar.select v252 c1_i32_167 c8_i32_165
  let v254 : BitVec 32 := Scalar.remsi v251 v253
  let c0_i32_169 : BitVec 32 := 0#32
  let v256 : BitVec 1 := Scalar.cmpi .slt v254 c0_i32_169
  let c0_i32_170 : BitVec 32 := 0#32
  let v257 : BitVec 1 := Scalar.cmpi .slt v253 c0_i32_170
  let v258 : BitVec 1 := Scalar.xori v256 v257
  let c0_i32_168 : BitVec 32 := 0#32
  let v255 : BitVec 1 := Scalar.cmpi .ne v254 c0_i32_168
  let v259 : BitVec 1 := Scalar.andi v258 v255
  let v260 : BitVec 32 := Scalar.addi v254 v253
  let v261 : BitVec 32 := Scalar.select v259 v260 v254
  let c1_i32_175 : BitVec 32 := 1#32
  let v263 : BitVec 32 := Scalar.muli v261 c1_i32_175
  let v264 : BitVec 32 := Scalar.addi c0_i32_176 v263
  v264.toNat
def k0_dev14 (d0 : Dev nD) : Nat :=
  let c0_i32_192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_180 : BitVec 32 := 3#32
  let v272 : BitVec 32 := Scalar.addi v2 c3_i32_180
  let c8_i32_181 : BitVec 32 := 8#32
  let c0_i32_182 : BitVec 32 := 0#32
  let v273 : BitVec 1 := Scalar.cmpi .eq c8_i32_181 c0_i32_182
  let c1_i32_183 : BitVec 32 := 1#32
  let v274 : BitVec 32 := Scalar.select v273 c1_i32_183 c8_i32_181
  let v275 : BitVec 32 := Scalar.remsi v272 v274
  let c0_i32_185 : BitVec 32 := 0#32
  let v277 : BitVec 1 := Scalar.cmpi .slt v275 c0_i32_185
  let c0_i32_186 : BitVec 32 := 0#32
  let v278 : BitVec 1 := Scalar.cmpi .slt v274 c0_i32_186
  let v279 : BitVec 1 := Scalar.xori v277 v278
  let c0_i32_184 : BitVec 32 := 0#32
  let v276 : BitVec 1 := Scalar.cmpi .ne v275 c0_i32_184
  let v280 : BitVec 1 := Scalar.andi v279 v276
  let v281 : BitVec 32 := Scalar.addi v275 v274
  let v282 : BitVec 32 := Scalar.select v280 v281 v275
  let c1_i32_191 : BitVec 32 := 1#32
  let v284 : BitVec 32 := Scalar.muli v282 c1_i32_191
  let v285 : BitVec 32 := Scalar.addi c0_i32_192 v284
  v285.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_196 : BitVec 32 := 32#32
  let v293 : BitVec 32 := Scalar.muli v2 c32_i32_196
  let v294 : Index := Scalar.indexCast v293
  let c0_197 : Index := 0#32
  ![v294.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_201 : BitVec 32 := 32#32
  let v299 : BitVec 32 := Scalar.muli v2 c32_i32_201
  let v300 : Index := Scalar.indexCast v299
  let c0_202 : Index := 0#32
  ![v300.toNat, 0]
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S256x128 : Shape := ⟨2, ![256, 128]⟩
abbrev S128x16 : Shape := ⟨2, ![128, 16]⟩
abbrev S256x1 : Shape := ⟨2, ![256, 1]⟩
abbrev S16x128x256 : Shape := ⟨3, ![16, 128, 256]⟩
abbrev S128x256 : Shape := ⟨2, ![128, 256]⟩
abbrev S256x16 : Shape := ⟨2, ![256, 16]⟩
abbrev S_ : Shape := ⟨0, ![]⟩
abbrev S256 : Shape := ⟨1, ![256]⟩
abbrev S256x256 : Shape := ⟨2, ![256, 256]⟩
abbrev S256x1x1 : Shape := ⟨3, ![256, 1, 1]⟩
abbrev S256x128x256 : Shape := ⟨3, ![256, 128, 256]⟩

abbrev nBuf : Space → Nat
  | .hbm => 46
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S128x16, .f32⟩
  | .hbm, ⟨2, _⟩ => ⟨S256x1, .i32⟩
  | .hbm, ⟨3, _⟩ => ⟨S16x128x256, .f32⟩
  | .hbm, ⟨4, _⟩ => ⟨S128x256, .f32⟩
  | .hbm, ⟨5, _⟩ => ⟨S256x16, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S256x16, .f32⟩
  | .hbm, ⟨10, _⟩ => ⟨S256x16, .f32⟩
  | .hbm, ⟨11, _⟩ => ⟨S256x16, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S256x16, .f32⟩
  | .hbm, ⟨16, _⟩ => ⟨S256x16, .f32⟩
  | .hbm, ⟨17, _⟩ => ⟨S256x256, .f32⟩
  | .hbm, ⟨18, _⟩ => ⟨S256, .i32⟩
  | .hbm, ⟨19, _⟩ => ⟨S_, .i32⟩
  | .hbm, ⟨20, _⟩ => ⟨S256x1, .i32⟩
  | .hbm, ⟨21, _⟩ => ⟨S256x1, .i1⟩
  | .hbm, ⟨22, _⟩ => ⟨S_, .i32⟩
  | .hbm, ⟨23, _⟩ => ⟨S256x1, .i32⟩
  | .hbm, ⟨24, _⟩ => ⟨S256x1, .i1⟩
  | .hbm, ⟨25, _⟩ => ⟨S256x1, .i1⟩
  | .hbm, ⟨26, _⟩ => ⟨S_, .i32⟩
  | .hbm, ⟨27, _⟩ => ⟨S256x1, .i32⟩
  | .hbm, ⟨28, _⟩ => ⟨S256x1, .i1⟩
  | .hbm, ⟨29, _⟩ => ⟨S_, .i32⟩
  | .hbm, ⟨30, _⟩ => ⟨S256x1, .i32⟩
  | .hbm, ⟨31, _⟩ => ⟨S256x1, .i32⟩
  | .hbm, ⟨32, _⟩ => ⟨S256x1, .i32⟩
  | .hbm, ⟨33, _⟩ => ⟨S256x1x1, .i32⟩
  | .hbm, ⟨34, _⟩ => ⟨S256x1, .f32⟩
  | .hbm, ⟨35, _⟩ => ⟨S256x1, .i32⟩
  | .hbm, ⟨36, _⟩ => ⟨S256x128x256, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S_, .f32⟩
  | .hbm, ⟨41, _⟩ => ⟨S_, .f32⟩
  | .hbm, ⟨42, _⟩ => ⟨S256x256, .i1⟩
  | .hbm, ⟨43, _⟩ => ⟨S256x256, .f32⟩
  | .hbm, ⟨44, _⟩ => ⟨S256x256, .f32⟩
  | .hbm, ⟨45, _⟩ => ⟨S256x256, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_v17 : Ref sig .tc := ⟨.hbm, 34, rfl⟩
abbrev main_call1_v0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_v22 : Ref sig .tc := ⟨.hbm, 44, rfl⟩
abbrev main_v23 : Ref sig .tc := ⟨.hbm, 45, rfl⟩

abbrev nD : Nat := 1
abbrev τ : Topo := Topo.v7x

variable {F : FTy → Type} [FloatOps F]
-- ==== Proof.Mesh.lean ====
/-
# Devices, slots and row blocks

The eight devices stand on a ring and name one another by offsets. A device's partial result (`256 × 256`) is cut
into eight row blocks, one per device; its landing buffer (`8 × 32 × 256`) is cut into eight slots, slot `s` for the
rows that the device `s` places further on computes for it.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Route

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## Offsets on the ring -/

/-- The device `k` places after `c`. -/
def sh (c : Dev nD) (k : Fin 8) : Dev nD := ⟨(c.val + k.val) % 8, Nat.mod_lt _ (by omega)⟩
/-- The offset that undoes `k`. -/
def op (k : Fin 8) : Fin 8 := ⟨(8 - k.val) % 8, Nat.mod_lt _ (by omega)⟩

theorem sh_op (c : Dev nD) (k : Fin 8) : sh (sh c k) (op k) = c := by revert c k; decide
theorem sh_op' (c : Dev nD) (k : Fin 8) : sh (sh c (op k)) k = c := by revert c k; decide
theorem op_op (k : Fin 8) : op (op k) = k := by revert k; decide
theorem op_ne (k : Fin 8) (h : k ≠ 0) : op k ≠ 0 := by revert k; decide
theorem sh_zero (c : Dev nD) : sh c 0 = c := by revert c; decide
theorem sh_inj (c : Dev nD) (k k' : Fin 8) (h : sh c k = sh c k') : k = k' := by revert c k k'; decide
/-- Every device is at some offset from every other. -/
theorem sh_surj (c d : Dev nD) : ∃ k, sh c k = d := by revert c d; decide

/-- Moving every device by `k` is a permutation of the devices. -/
def rot (k : Fin 8) : Dev nD ≃ Dev nD := ⟨(sh · k), (sh · (op k)), fun c => sh_op c k, fun c => sh_op' c k⟩

/-- The seven offsets to another device. -/
def offs : Finset (Fin 8) := Finset.univ.erase 0
theorem mem_offs (k : Fin 8) : k ∈ offs ↔ k ≠ 0 := by revert k; decide

/-! ## The device chains the kernel computes -/

theorem dev1_eq (c : Dev nD) : (⟨k0_dev1 c, k0_dev1_lt c⟩ : Dev nD) = sh c 1 := by revert c; decide
theorem dev2_eq (c : Dev nD) : (⟨k0_dev2 c, k0_dev2_lt c⟩ : Dev nD) = sh c 2 := by revert c; decide
theorem dev3_eq (c : Dev nD) : (⟨k0_dev3 c, k0_dev3_lt c⟩ : Dev nD) = sh c 3 := by revert c; decide
theorem dev4_eq (c : Dev nD) : (⟨k0_dev4 c, k0_dev4_lt c⟩ : Dev nD) = sh c 4 := by revert c; decide
theorem dev5_eq (c : Dev nD) : (⟨k0_dev5 c, k0_dev5_lt c⟩ : Dev nD) = sh c 5 := by revert c; decide
theorem dev6_eq (c : Dev nD) : (⟨k0_dev6 c, k0_dev6_lt c⟩ : Dev nD) = sh c 6 := by revert c; decide
theorem dev7_eq (c : Dev nD) : (⟨k0_dev7 c, k0_dev7_lt c⟩ : Dev nD) = sh c 7 := by revert c; decide
theorem dev8_eq (c : Dev nD) : (⟨k0_dev8 c, k0_dev8_lt c⟩ : Dev nD) = sh c 6 := by revert c; decide
theorem dev9_eq (c : Dev nD) : (⟨k0_dev9 c, k0_dev9_lt c⟩ : Dev nD) = sh c 2 := by revert c; decide
theorem dev10_eq (c : Dev nD) : (⟨k0_dev10 c, k0_dev10_lt c⟩ : Dev nD) = sh c 5 := by revert c; decide
theorem dev11_eq (c : Dev nD) : (⟨k0_dev11 c, k0_dev11_lt c⟩ : Dev nD) = sh c 7 := by revert c; decide
theorem dev12_eq (c : Dev nD) : (⟨k0_dev12 c, k0_dev12_lt c⟩ : Dev nD) = sh c 4 := by revert c; decide
theorem dev13_eq (c : Dev nD) : (⟨k0_dev13 c, k0_dev13_lt c⟩ : Dev nD) = sh c 1 := by revert c; decide
theorem dev14_eq (c : Dev nD) : (⟨k0_dev14 c, k0_dev14_lt c⟩ : Dev nD) = sh c 3 := by revert c; decide

/-- The rows the kernel sends at offset `k` start at 32 times the receiver. -/
theorem off1_eq (c : Dev nD) (k : Fin 8) (hk : k ≠ 0) : k0_off1 c (BitVec.ofNat 32 k.val) = ![32 * (sh c k).val, 0] := by
  revert c k; decide

/-! ## Slots and row blocks -/

theorem slot_inb (s : Fin 8) : ∀ a, (![s.val, 0, 0] : Fin 3 → ℕ) a + S1x32x256.size a ≤ S8x32x256.size a := by revert s; decide
theorem row_inb (b : Dev nD) : ∀ a, (![32 * b.val, 0] : Fin 2 → ℕ) a + S32x256.size a ≤ S256x256.size a := by revert b; decide

/-- Slot `s` of the landing buffer as a rectangle; -/
abbrev slotR (s : Fin 8) : Rect S8x32x256 := Rect.unit (s := S8x32x256) ![s.val, 0, 0] S1x32x256.size (slot_inb s)
/-- row block `b` of the partial result. -/
abbrev rowR (b : Dev nD) : Rect S256x256 := Rect.unit (s := S256x256) ![32 * b.val, 0] S32x256.size (row_inb b)

/-- Slot `s` as the `32 × 256` memref the transfers land in; -/
abbrev slotM (s : Fin 8) : Memref sig .tc .vmem S32x256 .bf16 :=
  ((Memref.whole cc0_scratch1 : Memref sig .tc .vmem S8x32x256 .bf16).slice (slotR s) (fun _ => rfl)).squeeze S32x256 squeezes_S1x32x256_S32x256
/-- row block `b` as the memref they leave from. -/
abbrev rowM (b : Dev nD) : Memref sig .tc .vmem S32x256 .bf16 :=
  (Memref.whole cc0_scratch0 : Memref sig .tc .vmem S256x256 .bf16).slice (rowR b) (fun _ => rfl)

theorem slotM_set (s : Fin 8) : (slotM s).view.set = (slotR s).set :=
  (View.set_reshape (v := ((Memref.whole cc0_scratch1 : Memref sig .tc .vmem S8x32x256 .bf16).slice (slotR s) (fun _ => rfl)).view) _).trans
    (View.set_slice_whole cc0_scratch1 (slotR s))
theorem rowM_set (b : Dev nD) : (rowM b).view.set = (rowR b).set := View.set_slice_whole cc0_scratch0 (rowR b)

theorem slots_disjoint (s s' : Fin 8) (h : s ≠ s') : Disjoint (slotR s).set (slotR s').set :=
  Ring.lead_disjoint (s := S8x32x256) (0 : Fin 3) 1 (fun s : Fin 8 => ![s.val, 0, 0]) S1x32x256.size slot_inb
    (fun b => (Nat.one_mul _).symm) rfl s s' h
theorem slots_cover : Finset.univ.biUnion (fun s => (slotR s).set) = Finset.univ :=
  Ring.lead_cover (s := S8x32x256) (0 : Fin 3) 1 (fun s : Fin 8 => ![s.val, 0, 0]) S1x32x256.size slot_inb
    (fun b => (Nat.one_mul _).symm) (by decide) rfl (by decide) rfl
theorem rows_disjoint (b b' : Dev nD) (h : b ≠ b') : Disjoint (rowR b).set (rowR b').set :=
  Ring.lead_disjoint (s := S256x256) (0 : Fin 2) 32 (fun b : Fin 8 => ![32 * b.val, 0]) S32x256.size row_inb
    (fun b => rfl) rfl b b' h
theorem rows_cover : Finset.univ.biUnion (fun b => (rowR b).set) = Finset.univ :=
  Ring.lead_cover (s := S256x256) (0 : Fin 2) 32 (fun b : Fin 8 => ![32 * b.val, 0]) S32x256.size row_inb
    (fun b => rfl) (by decide) rfl (by decide) rfl

/-! ## Semaphores -/

/-- The runtime's barrier semaphore. -/
abbrev barS : Sem sig := (SemArray.scalar (sig.barrier 0 rfl) : Sems sig S_).sem
/-- The semaphore counting the rows sent at offset `k` out of their source; -/
abbrev sendS (k : Fin 8) : DmaSem sig := ⟨6 + k.val, by show 6 + k.val < 22; omega⟩
/-- the one counting what has landed in slot `s`. -/
abbrev recvS (s : Fin 8) : DmaSem sig := ⟨14 + s.val, by show 14 + s.val < 22; omega⟩

abbrev barCell (c : Dev nD) : GSem nD τ sig := ((c : Thread nD τ), .reg barS)
abbrev sendCell (c : Dev nD) (k : Fin 8) : GSem nD τ sig := ((c : Thread nD τ), .dma (sendS k))
abbrev recvCell (c : Dev nD) (s : Fin 8) : GSem nD τ sig := ((c : Thread nD τ), .dma (recvS s))

/-- What one transferred block pays. -/
abbrev N : ℕ := (slotM 0).view.dmaCredit
theorem N_pos : 0 < N := View.dmaCredit_pos _ (by decide)
theorem slot_credit (s : Fin 8) : (slotM s).view.dmaCredit = N := rfl
theorem row_credit (b : Dev nD) : (rowM b).view.dmaCredit = N := rfl

/-! ## What a landing buffer holds in the end -/

section Landed
variable {F : FTy → Type}

/-- Row `r` of block `b` in the partial result, at column `h`. -/
abbrev rowIx (b : Dev nD) (r : Fin 32) (h : Fin 256) : S256x256.Idx :=
  fun | ⟨0, _⟩ => ⟨32 * b.val + r.val, by have hb : b.val < 8 := b.isLt; have := r.isLt; show _ < 256; omega⟩ | ⟨1, _⟩ => h

/-- The landing buffer of device `c` when every device's partial result is `part`: slot `s` holds row block `c` of
    the partial result of the device `s` places on. -/
def landed (part : Dev nD → S256x256.Idx → Elt F .bf16) (c : Dev nD) : S8x32x256.Idx → Elt F .bf16 :=
  fun i => part (sh c (i 0)) (rowIx c (i 1) (i 2))

/-- Copying row block `c` of the partial result of the device `s` places on into slot `s` makes that slot what
    `landed` says. -/
theorem copied (part : Dev nD → S256x256.Idx → Elt F .bf16) (c : Dev nD) (s : Fin 8)
    (fd : S8x32x256.Idx → Elt F .bf16) (i : S8x32x256.Idx) (hi : i ∈ (slotR s).set) :
    ((slotM s).view.write (Elt F) fd ((rowM c).view.read (Elt F) (part (sh c s))) Finset.univ : S8x32x256.Idx → Elt F .bf16) i
      = landed part c i := by
  rw [← slotM_set] at hi
  obtain ⟨x, -, rfl⟩ := Finset.mem_map.mp hi
  have e : (slotM s).view.emb x = (slotR s).emb (Fin.cons ⟨0, Nat.one_pos⟩ x : S1x32x256.Idx) :=
    congrArg (slotR s).emb (Shape.reshapeEquiv_cons_one (d := ![32, 256]) _ x)
  refine (View.write_emb_of_mem _ _ (Finset.mem_univ _)).trans ?_
  rw [e]
  show part (sh c s) ((rowR c).emb x) = part (sh c _) _
  have e₁ : ((slotR s).emb (Fin.cons ⟨0, Nat.one_pos⟩ x : S1x32x256.Idx) 0 : Fin 8) = s := Fin.ext (by show s.val + 1 * 0 = s.val; omega)
  have e₂ : (rowR c).emb x = rowIx c ((slotR s).emb (Fin.cons ⟨0, Nat.one_pos⟩ x : S1x32x256.Idx) 1)
      ((slotR s).emb (Fin.cons ⟨0, Nat.one_pos⟩ x : S1x32x256.Idx) 2) := by
    funext a
    refine Fin.ext ?_
    match a with
    | ⟨0, _⟩ => show 32 * c.val + 1 * (x 0).val = 32 * c.val + (0 + 1 * (x 0).val); omega
    | ⟨1, _⟩ => rfl
  rw [e₂]
  exact congrArg (fun k => part (sh c k) _) e₁.symm

end Landed

end Cert.Route

end
-- ==== Proof.Sched.lean ====
/-
# The exchange's schedule

Every device has a barrier cell, eight send cells and eight receive cells (numbers 0 of the send and receive cells stay
unused). The barrier cell of device `e` is paid one unit by each of the other devices; the device at offset `op k` from
`e`, whose signal is the duty named `k`, hands over its landing slot `k`, which `e` is the one to fill. A receive cell is
paid once, by the device whose rows land in that slot, a send cell once, by the device's own transfer. `part d` stands
throughout for the partial result of device `d`.
-/
module

public import proofs.«01_k».proof.Proof.Mesh

@[expose] public section

noncomputable section

namespace Cert.Route

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The exchange's rounds algebra: duties are named by offsets. -/
abbrev UX : Type := URounds (GSem nD τ sig) (Fin 8)
/-- The pipeline's algebra beside it. -/
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-! ## Pieces of the two scratch buffers -/

/-- Slot `s` of device `c`'s landing buffer, holding what `f` says there. -/
def slotPts (c : Dev nD) (s : Fin 8) (f : S8x32x256.Idx → Elt F .bf16) : sProp 𝕄 :=
  (slotM s).view.loc (c : Thread nD τ) ↦[(slotM s).view.set]{fullShare} (f : Buf (Elt F) ((slotM s).view.loc (c : Thread nD τ)))
/-- Row block `b` of device `c`'s partial result, holding what `f` says there. -/
def rowPts (c : Dev nD) (b : Dev nD) (f : S256x256.Idx → Elt F .bf16) : sProp 𝕄 :=
  (rowM b).view.loc (c : Thread nD τ) ↦[(rowM b).view.set]{fullShare} (f : Buf (Elt F) ((rowM b).view.loc (c : Thread nD τ)))

instance slotPts_storable (c : Dev nD) (s : Fin 8) (f) : BI.Storable (upEmb : UEmb _ 𝕄) (slotPts (F := F) c s f) := by
  unfold slotPts; infer_instance
instance rowPts_storable (c : Dev nD) (b : Dev nD) (f) : BI.Storable (upEmb : UEmb _ 𝕄) (rowPts (F := F) c b f) := by
  unfold rowPts; infer_instance

/-- The landing buffer is its eight slots; -/
theorem slots_eq (c : Dev nD) (f : S8x32x256.Idx → Elt F .bf16) :
    ((((c : Thread nD τ).loc cc0_scratch1) ↦{fullShare} (f : Buf (Elt F) ((c : Thread nD τ).loc cc0_scratch1))) : sProp 𝕄)
      = bigSep Finset.univ fun s => slotPts c s f := by
  refine (Ring.pointsTo_blocks (ℓ := (c : Thread nD τ).loc cc0_scratch1) (fun s => (slotR s).set) slots_disjoint slots_cover f).trans ?_
  exact bigSep_congr fun s _ => by unfold slotPts; rw [slotM_set]
/-- the partial result its eight row blocks. -/
theorem rows_eq (c : Dev nD) (f : S256x256.Idx → Elt F .bf16) :
    ((((c : Thread nD τ).loc cc0_scratch0) ↦{fullShare} (f : Buf (Elt F) ((c : Thread nD τ).loc cc0_scratch0))) : sProp 𝕄)
      = bigSep Finset.univ fun b => rowPts c b f := by
  refine (Ring.pointsTo_blocks (ℓ := (c : Thread nD τ).loc cc0_scratch0) (fun b => (rowR b).set) rows_disjoint rows_cover f).trans ?_
  exact bigSep_congr fun s _ => by unfold rowPts; rw [rowM_set]

/-- A slot's contents matter inside the slot alone. -/
theorem slotPts_congr (c : Dev nD) (s : Fin 8) (f g : S8x32x256.Idx → Elt F .bf16) (h : ∀ i ∈ (slotR s).set, f i = g i) :
    (slotPts c s f : sProp 𝕄) = slotPts c s g := by
  unfold slotPts
  exact pointsTo_congr fun i hi => h i (by rw [slotM_set] at hi; exact hi)

/-! ## The schedule -/

section Sched
variable (part : Dev nD → S256x256.Idx → Elt F .bf16)

/-- What the duty named `k` of device `e`'s barrier cell hands over: the slot `e` is to fill. -/
def barPay (e : Dev nD) (k : Fin 8) : sProp 𝕄 :=
  iprop(∃ f, slotPts (sh e (op k)) k f)
/-- What a transfer's completion hands over: at a receive cell the filled slot, at a send cell the rows sent. -/
def dmaPay (c : Dev nD) (q : DmaSem sig) : sProp 𝕄 :=
  if 14 ≤ q.val then slotPts c (Fin.ofNat 8 (q.val - 14)) (landed part c) else rowPts c (sh c (Fin.ofNat 8 (q.val - 6))) (part c)

/-- The duties of a semaphore's cell in round 0. -/
def dutiesOf : SemLoc sig → Finset (Fin 8)
  | .reg _ => offs
  | .dma q => if 6 < q.val ∧ q.val ≠ 14 then {0} else ∅
/-- What one duty of it pays. -/
def amountOf : SemLoc sig → ℕ
  | .reg _ => 1
  | .dma _ => N
/-- What comes with it. -/
def payOf (c : Dev nD) (d : Fin 8) : SemLoc sig → sProp 𝕄
  | .reg _ => barPay c d
  | .dma q => dmaPay part c q

/-- The schedule: one round. -/
def sched : Rounds.Schedule (GSem nD τ sig) (Fin 8) 𝕄 where
  duties g r := if r = 0 ∧ g.1.2 = .tc then dutiesOf g.2 else ∅
  unitless _ := False
  amount g _ _ := amountOf g.2
  payload g _ d := payOf part g.1.1 d g.2
  amount_pos g _ _ _ := by
    obtain ⟨t, sm⟩ := g
    cases sm with
    | reg _ => exact Nat.one_pos
    | dma _ => exact N_pos

instance sched_storable (g : GSem nD τ sig) (r : ℕ) (d : Fin 8) :
    BI.Storable (upEmb : UEmb _ 𝕄) ((sched (F := F) part).payload g r d) := by
  obtain ⟨t, sm⟩ := g
  cases sm with
  | reg _ => show BI.Storable upEmb (barPay t.1 d); unfold barPay; infer_instance
  | dma q =>
    show BI.Storable upEmb (dmaPay part t.1 q)
    unfold dmaPay
    split <;> infer_instance

theorem duties_zero (c : Dev nD) (sm : SemLoc sig) : (sched part).duties ((c : Thread nD τ), sm) 0 = dutiesOf sm := by
  dsimp only [sched]; exact if_pos ⟨rfl, rfl⟩
theorem duties_bar (c : Dev nD) : (sched part).duties (barCell c) 0 = offs := duties_zero part c _
theorem duties_send (c : Dev nD) (k : Fin 8) (hk : k ≠ 0) : (sched part).duties (sendCell c k) 0 = {0} := by
  have h : 0 < k.val := Nat.pos_of_ne_zero fun h => hk (Fin.ext h)
  exact (duties_zero part c _).trans (if_pos (by show 6 < 6 + k.val ∧ 6 + k.val ≠ 14; omega))
theorem duties_recv (c : Dev nD) (s : Fin 8) (hs : s ≠ 0) : (sched part).duties (recvCell c s) 0 = {0} := by
  have h : 0 < s.val := Nat.pos_of_ne_zero fun h => hs (Fin.ext h)
  exact (duties_zero part c _).trans (if_pos (by show 6 < 14 + s.val ∧ 14 + s.val ≠ 14; omega))
theorem duties_later (g : GSem nD τ sig) : ∀ r, 1 ≤ r → (sched part).duties g r = ∅ :=
  fun r hr => by dsimp only [sched]; exact if_neg fun h => by omega
/-- The unused cells have no duty at all. -/
theorem duties_idle (c : Dev nD) (q : DmaSem sig) (hq : ¬ (6 < q.val ∧ q.val ≠ 14)) :
    ∀ r, 0 ≤ r → (sched part).duties ((c : Thread nD τ), .dma q) r = ∅ := fun r _ => by
  show (if r = 0 ∧ _ then (if 6 < q.val ∧ q.val ≠ 14 then {0} else ∅) else ∅) = (∅ : Finset (Fin 8))
  rw [if_neg hq]; split <;> rfl

theorem expect_bar (c : Dev nD) : (sched part).expect (barCell c) 0 = 7 := by
  unfold Schedule.expect Schedule.amountOf
  rw [duties_bar, Finset.sum_congr rfl fun d _ => (rfl : (sched part).amount (barCell c) 0 d = 1)]
  rfl
theorem expect_send (c : Dev nD) (k : Fin 8) (hk : k ≠ 0) : (sched part).expect (sendCell c k) 0 = N := by
  unfold Schedule.expect Schedule.amountOf; rw [duties_send part c k hk, Finset.sum_singleton]; rfl
theorem expect_recv (c : Dev nD) (s : Fin 8) (hs : s ≠ 0) : (sched part).expect (recvCell c s) 0 = N := by
  unfold Schedule.expect Schedule.amountOf; rw [duties_recv part c s hs, Finset.sum_singleton]; rfl

theorem payload_send (c : Dev nD) (k d : Fin 8) : (sched part).payload (sendCell c k) 0 d = rowPts c (sh c k) (part c) := by
  show dmaPay part c (sendS k) = _
  unfold dmaPay
  rw [if_neg (by show ¬ 14 ≤ 6 + k.val; omega)]
  congr 2
  exact Fin.ext (by show (6 + k.val - 6) % 8 = k.val; omega)
theorem payload_recv (c : Dev nD) (s d : Fin 8) : (sched part).payload (recvCell c s) 0 d = slotPts c s (landed part c) := by
  show dmaPay part c (recvS s) = _
  unfold dmaPay
  rw [if_pos (by show 14 ≤ 14 + s.val; omega)]
  congr 1
  exact Fin.ext (by show (14 + s.val - 14) % 8 = s.val; omega)

theorem rest_send (c : Dev nD) (k : Fin 8) (hk : k ≠ 0) :
    bigSep ((sched part).duties (sendCell c k) 0 \ ∅) (fun d => (sched part).payload (sendCell c k) 0 d) = rowPts c (sh c k) (part c) := by
  rw [Finset.sdiff_empty, duties_send part c k hk, bigSep_singleton, payload_send]
theorem rest_recv (c : Dev nD) (s : Fin 8) (hs : s ≠ 0) :
    bigSep ((sched part).duties (recvCell c s) 0 \ ∅) (fun d => (sched part).payload (recvCell c s) 0 d) = slotPts c s (landed part c) := by
  rw [Finset.sdiff_empty, duties_recv part c s hs, bigSep_singleton, payload_recv]
theorem rest_bar (c : Dev nD) :
    bigSep ((sched part).duties (barCell c) 0 \ ∅) (fun d => (sched part).payload (barCell c) 0 d) = bigSep offs (barPay c) := by
  rw [Finset.sdiff_empty, duties_bar]; rfl

end Sched

/-! ## Chains: a family over a list of offsets, taken from the front -/

/-- The conjunction of `Φ` over a list. -/
def chain (Φ : Fin 8 → sProp 𝕄) : List (Fin 8) → sProp 𝕄
  | [] => iprop(emp)
  | k :: l => iprop(Φ k ∗ chain Φ l)

theorem chain_nil (Φ : Fin 8 → sProp 𝕄) : chain Φ [] = iprop(emp) := rfl
theorem chain_cons (Φ : Fin 8 → sProp 𝕄) (k : Fin 8) (l : List (Fin 8)) : chain Φ (k :: l) = iprop(Φ k ∗ chain Φ l) := rfl

theorem chain_eq (Φ : Fin 8 → sProp 𝕄) : ∀ l : List (Fin 8), l.Nodup → chain Φ l = bigSep l.toFinset Φ
  | [], _ => by rw [List.toFinset_nil, bigSep_empty]; rfl
  | k :: l, h => by
    have h' := List.nodup_cons.mp h
    rw [List.toFinset_cons, bigSep_insert (fun hm => h'.1 (List.mem_toFinset.mp hm)), ← chain_eq Φ l h'.2]
    rfl

/-- Over all seven offsets, in whatever order. -/
theorem chain_offs (Φ : Fin 8 → sProp 𝕄) (l : List (Fin 8)) (h : l.Nodup) (hl : l.toFinset = offs) : chain Φ l = bigSep offs Φ := by
  rw [chain_eq Φ l h, hl]

/-! ## What a device owes -/

/-- The order the kernel sends in. -/
abbrev order : List (Fin 8) := [6, 2, 5, 7, 4, 1, 3]
/-- The order it signals in. -/
abbrev sigOrder : List (Fin 8) := [1, 2, 3, 4, 5, 6, 7]

/-- A block's credit owed to the slots the listed transfers fill; -/
def oweRecv (c : Dev nD) : List (Fin 8) → CellTallies nD τ sig Unit
  | [] => 0
  | k :: l => oweRecv c l + tallyAt (recvCell (sh c k) (op k)) () N
/-- a unit owed to the listed devices' barriers besides. -/
def oweBar (c : Dev nD) : List (Fin 8) → CellTallies nD τ sig Unit
  | [] => oweRecv c order
  | k :: l => oweBar c l + tallyAt (barCell (sh c k)) () 1
/-- What device `c` owes at launch. -/
def O₀ (c : Dev nD) : CellTallies nD τ sig Unit := oweBar c sigOrder

theorem oweRecv_pos (c : Dev nD) (g : GSem nD τ sig) (u : Unit) : ∀ l : List (Fin 8), 0 < oweRecv c l g u → ∃ d s, g = recvCell d s
  | [], h => absurd h (Nat.lt_irrefl 0)
  | k :: l, h => by
    unfold oweRecv at h
    rw [Pi.add_apply, Finsupp.add_apply, tallyAt_apply] at h
    by_cases hg : g = recvCell (sh c k) (op k) ∧ u = ()
    · exact ⟨_, _, hg.1⟩
    · rw [if_neg hg] at h; exact oweRecv_pos c g u l h
theorem oweBar_pos (c : Dev nD) (g : GSem nD τ sig) (u : Unit) :
    ∀ l : List (Fin 8), 0 < oweBar c l g u → (∃ d s, g = recvCell d s) ∨ ∃ d, g = barCell d
  | [], h => Or.inl (oweRecv_pos c g u _ h)
  | k :: l, h => by
    unfold oweBar at h
    rw [Pi.add_apply, Finsupp.add_apply, tallyAt_apply] at h
    by_cases hg : g = barCell (sh c k) ∧ u = ()
    · exact Or.inr ⟨_, hg.1⟩
    · rw [if_neg hg] at h; exact oweBar_pos c g u l h

/-! ## Levels -/

def L (g : GSem nD τ sig) : Finset Unit := if g.1.2 = .tc then {()} else ∅
/-- Barriers at 1, receive cells at 2, all else at 0. -/
def lvOf : SemLoc sig → ℕ
  | .reg _ => 1
  | .dma q => if 14 ≤ q.val then 2 else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (d : Dev nD) (s : Fin 8) (u : Unit) : lv (recvCell d s) u = 2 := if_pos (Nat.le_add_right 14 s.val)

/-- A device may wait on a staging cell whatever of the above it owes; -/
theorem mayWait_stage (c : Dev nD) (q : DmaSem sig) (hq : q.val < 14) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases oweBar_pos c g u _ hg with ⟨d, s, rfl⟩ | ⟨d, rfl⟩ <;> exact Finset.mem_singleton_self _)
      (fun p hp => by rw [Finset.mem_singleton.mp hp]; exact le_of_eq (if_neg (by omega)))
      (fun g u hg => by
        rcases oweBar_pos c g u _ hg with ⟨d, s, rfl⟩ | ⟨d, rfl⟩
        · rw [lv_recv]; decide
        · exact Nat.one_pos)
  · rw [MayWait_zero]; iintro -; iempintro

/-- and on its barrier cell while it owes receive credits only. -/
theorem mayWait_bar (c : Dev nD) (l : List (Fin 8)) : (levAts L lv : sProp 𝕄) ⊢ MayWait (c : Thread nD τ) (.reg barS) () (oweRecv c l) :=
  MayOwe.of_cut (L := L) (lev := lv) 1 (fun p hp => by rw [Finset.mem_singleton.mp hp, L_tc]; exact Finset.mem_singleton_self _)
    (fun g u hg => by obtain ⟨d, s, rfl⟩ := oweRecv_pos c g u _ hg; exact Finset.mem_singleton_self _)
    (fun p hp => by rw [Finset.mem_singleton.mp hp]; exact le_of_eq rfl)
    (fun g u hg => by obtain ⟨d, s, rfl⟩ := oweRecv_pos c g u _ hg; rw [lv_recv]; decide)

/-! ## The cells, numbered, and their records -/

/-- A device's seventeen cells: its barrier, then its send and its receive cells; -/
def csem : Fin 17 → SemLoc sig := fun j => if h : j.val = 0 then .reg barS else .dma ⟨5 + j.val, by have := j.isLt; show 5 + j.val < 22; omega⟩
abbrev kcell (cj : Dev nD × Fin 17) : GSem nD τ sig := ((cj.1 : Thread nD τ), csem cj.2)
/-- the numbers of a send and of a receive cell. -/
abbrev sIx (k : Fin 8) : Fin 17 := ⟨1 + k.val, by omega⟩
abbrev rIx (s : Fin 8) : Fin 17 := ⟨9 + s.val, by omega⟩
theorem csem_bar : csem 0 = .reg barS := rfl
theorem csem_send (k : Fin 8) : csem (sIx k) = .dma (sendS k) := by revert k; decide
theorem csem_recv (s : Fin 8) : csem (rIx s) = .dma (recvS s) := by revert s; decide

variable (part : Dev nD → S256x256.Idx → Elt F .bf16) (K : Dev nD × Fin 17 → ℕ)

/-- What all devices know: every cell's invariant, that its round 0 is open, and the levels. -/
def records : sProp 𝕄 :=
  iprop((bigSep Finset.univ fun cj : Dev nD × Fin 17 => cellInv ER (sched part) (K cj) (kcell cj))
    ∗ (bigSep Finset.univ fun cj : Dev nD × Fin 17 => reached ER (kcell cj) 0) ∗ levAts L lv)

instance records_persistent : BI.Persistent (records part K) := by unfold records; infer_instance

theorem inv_of_all (cj : Dev nD × Fin 17) :
    (bigSep Finset.univ fun cj : Dev nD × Fin 17 => (cellInv ER (sched part) (K cj) (kcell cj) : sProp 𝕄)) ⊢ cellInv ER (sched part) (K cj) (kcell cj) :=
  bigSep_elim (Finset.mem_univ cj)
theorem reached_of_all (cj : Dev nD × Fin 17) :
    (bigSep Finset.univ fun cj : Dev nD × Fin 17 => (reached ER (kcell cj) 0 : sProp 𝕄)) ⊢ reached ER (kcell cj) 0 :=
  bigSep_elim (Finset.mem_univ cj)

theorem records_inv (c : Dev nD) (j : Fin 17) (sm : SemLoc sig) (h : csem j = sm) :
    (records part K : sProp 𝕄) ⊢ cellInv ER (sched part) (K (c, j)) ((c : Thread nD τ), sm) := by
  subst h
  unfold records
  iintro ⟨H, -⟩
  iapply (inv_of_all part K (c, j)); iexact H
theorem records_reached (c : Dev nD) (j : Fin 17) (sm : SemLoc sig) (h : csem j = sm) :
    (records part K : sProp 𝕄) ⊢ reached ER ((c : Thread nD τ), sm) 0 := by
  subst h
  unfold records
  iintro ⟨-, H, -⟩
  iapply (reached_of_all (F := F) (c, j)); iexact H
theorem records_lev : (records part K : sProp 𝕄) ⊢ levAts L lv := by
  unfold records
  iintro ⟨-, -, H⟩
  iexact H

end Cert.Route

end
-- ==== Proof.Steps.lean ====
/-
# One step of the exchange

The kernel's body signals seven barriers, waits for its own, starts seven transfers, waits for seven landings and for its
seven transfers to have left. Each kind of step is stated here once, at a symbolic offset, over the state the device is in
during that phase: `sigSt`, `sendSt`, `waitSt`, each over the list of offsets still to come.
-/
module

public import proofs.«01_k».proof.Proof.Sched

@[expose] public section

noncomputable section

namespace Cert.Route

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- What device `c` owes, its record of waits left open. -/
def owing (c : Dev nD) (O : CellTallies nD τ sig Unit) : sProp 𝕄 := iprop(∃ W : Waits sig Unit, owes (c : Thread nD τ) O W)

variable (part : Dev nD → S256x256.Idx → Elt F .bf16) (K : Dev nD × Fin 17 → ℕ) (c : Dev nD)

/-! ## Signals -/

/-- Before the signals at the listed offsets: each one's duty token, and the slot it hands over. -/
def sigSt (l : List (Fin 8)) : sProp 𝕄 :=
  iprop(records part K ∗ owing c (oweBar c l)
    ∗ chain (fun k => iprop(dutyTok ER (barCell (sh c k)) 0 k ∗ ∃ f, slotPts c k f)) l)

/-- The signal to the device at offset `j` passes the next slot on. -/
theorem step_signal {j : Fin 8} {l : List (Fin 8)} {n : Dev nD} (hn : n = sh c j) (hj : j ≠ 0) {u : ℕ} (hu : 1 = u)
    {α : Type} {Q : α → sProp 𝕄} {k : PUnit → Prog (TpuEff nD τ sig (Elt F) Λ₀ .tc) α} :
    sigSt part K c (j :: l)
      ⊢ iprop((sigSt part K c l -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n : Thread nD τ) barS u) k) Q) := by
  subst hn; subst hu
  unfold sigSt owing
  rw [chain_cons]
  iintro ⟨#HR, ⟨%W, HO⟩, ⟨Ht, Hs⟩, Hc⟩ Hk
  iapply (Rounds.wp_signal 𝒱₀ ER (sched part) (c : Thread nD τ) none (dst := (sh c j : Thread nD τ)) (κ := K (sh c j, 0))
      (d := j) (by rw [duties_bar]; exact (mem_offs j).mpr hj) rfl () (oweBar c l) rfl) $$ [HO Ht Hs]
  · isplitr; · iapply (records_inv part K (sh c j) 0 _ csem_bar); iexact HR
    isplitl [HO]; · iexact HO
    isplitl [Ht]; · iexact Ht
    isplitl [Hs]
    · rw [show (sched part).payload (barCell (sh c j)) 0 j = barPay (sh c j) j from rfl]
      unfold barPay; rw [sh_op]; iexact Hs
    · iapply (records_reached part K (sh c j) 0 _ csem_bar); iexact HR
  iintro HO
  iapply Hk
  isplitr; · iexact HR
  isplitl [HO]; · iexists W; iexact HO
  iexact Hc

/-! ## The barrier -/

/-- The wait for all seven signals brings the seven slots this device is to fill, in the order it fills them. -/
theorem step_barrier {u : ℕ} (hu : 7 = u)
    {α : Type} {Q : α → sProp 𝕄} {k : PUnit → Prog (TpuEff nD τ sig (Elt F) Λ₀ .tc) α} :
    iprop(sigSt part K c [] ∗ cred (tallyAt (barCell c) () 7) ∗ atPos ER (barCell c) 0 ∅ 0)
      ⊢ iprop(((records part K ∗ owing c (oweRecv c order) ∗ chain (fun k => iprop(∃ f, slotPts (sh c k) (op k) f)) order ∗ semVal (barCell c) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS u) k) Q) := by
  subst hu
  have hslots : (bigSep offs (barPay c) : sProp 𝕄) = chain (fun k => iprop(∃ f, slotPts (sh c k) (op k) f)) order := by
    rw [← chain_offs (barPay c) (order.map op) (by decide) (by decide)]
    have h : ∀ k, (barPay c (op k) : sProp 𝕄) = iprop(∃ f, slotPts (sh c k) (op k) f) := fun k => by unfold barPay; rw [op_op]
    simp only [List.map, chain_cons, chain_nil, h]
  unfold sigSt owing
  iintro ⟨⟨#HR, ⟨%W, HO⟩, -⟩, Hc, Ha⟩ Hk
  ihave #HI := (records_inv part K c 0 _ csem_bar) $$ HR
  iapply (Rounds.wp_wait_rest_token 𝒱₀ ER (sched part) (c : Thread nD τ) none (κ := K (c, 0))
      (wpE_semWait_eq 𝒱₀ (c : Thread nD τ) none Set.univ) (Set.mem_univ _) () (O := oweRecv c order) (W := W) (R := 0) (m := 0) (T := ∅)
      (by rw [expect_bar])) $$ [Hc HO Ha]
  · isplitr; · iexact HI
    isplitl [Hc]; · iexact Hc
    isplitl [HO]; · iexact HO
    isplitr; · iapply (mayWait_bar c order); iapply (records_lev part K); iexact HR
    iexact Ha
  iintro ⟨HO, Ha, -, Hp⟩
  imod (Rounds.cell_close ER (sched part) (Set.mem_univ (K (c, 0))) (fun h => h) (R := 0 + 1) (duties_later part (barCell c))) $$ [Ha] with Hz
  · isplitr; · iexact HI
    iexact Ha
  iapply Hk
  isplitr; · iexact HR
  isplitl [HO]; · iexists _; iexact HO
  isplitl [Hp]; · iapply (Entails.of_eq ((rest_bar part c).trans hslots)); iexact Hp
  iexact Hz

/-! ## Transfers -/

/-- Before the transfers at the offsets `todo`, those at `done` started: for each to come its two duty tokens, the rows and the slot. -/
def sendSt (done todo : List (Fin 8)) : sProp 𝕄 :=
  iprop(records part K ∗ owing c (oweRecv c todo)
    ∗ chain (fun k => iprop(dutyTok ER (sendCell c k) 0 0 ∗ dutyTok ER (recvCell (sh c k) (op k)) 0 0
        ∗ rowPts c (sh c k) (part c) ∗ ∃ f, slotPts (sh c k) (op k) f)) todo
    ∗ chain (fun k => cred (tallyAt (sendCell c k) () N)) done)

/-- The transfer at offset `j`: the rows of the receiver go out, its slot will hold them. -/
theorem step_send {j : Fin 8} {done todo : List (Fin 8)} (hj : j ≠ 0) {n : Dev nD} (hn : n = sh c j)
    {src : Memref sig .tc .vmem S32x256 .bf16} (hs : src = rowM (sh c j))
    {dst : Memref sig .tc .vmem S32x256 .bf16} (hd : dst = slotM (op j))
    {q q' : DmaSem sig} (hq : q = sendS j) (hq' : q' = recvS (op j))
    {hsc : (dst : Memref sig (Dev.tc n : Thread nD τ).2.kind .vmem S32x256 .bf16).view.ref.isScScratch = false}
    {hsrc : src.view.WordExact} {hdst : dst.view.WordExact}
    {hsem : DmaTarget.Typed .vmem (.dma q') (.remote (Dev.tc n : Thread nD τ) (dst : Memref sig .tc .vmem S32x256 .bf16) (.dma q) hsc)}
    {α : Type} {Q : α → sProp 𝕄} {k : PUnit → Prog (TpuEff nD τ sig (Elt F) Λ₀ .tc) α} :
    sendSt part K c done (j :: todo)
      ⊢ iprop((sendSt part K c (j :: done) todo -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma q) hsc) (.dma q') hsrc hdst hsem) k) Q) := by
  subst hn; subst hs; subst hd; subst hq; subst hq'
  unfold sendSt owing
  rw [chain_cons, chain_cons]
  iintro ⟨#HR, ⟨%W, HO⟩, ⟨⟨HtS, HtV, Hrow, ⟨%f, Hslot⟩⟩, Hc⟩, Hd⟩ Hk
  iapply (Rounds.wp_send_pointsTo 𝒱₀ ER (sched part) (c : Thread nD τ) none (κ₁ := K (c, sIx j)) (κ₂ := K (sh c j, rIx (op j)))
    (r₁ := 0) (r₂ := 0) (d₁ := 0) (d₂ := 0) (q := fullShare) (fs := part c) (fd := f)
    (by rw [duties_send part c j hj]; exact Finset.mem_singleton_self _) (by rw [duties_recv part _ _ (op_ne j hj)]; exact Finset.mem_singleton_self _)
    () () N rfl rfl rfl (oweRecv c todo) rfl (W := W)
    (by rw [payload_send]; exact BI.Entails.refl _)
    (by
      rw [payload_recv]
      refine Entails.of_eq (pointsTo_congr fun i hi => ?_)
      have h := copied part (sh c j) (op j) f i (by rw [← slotM_set]; exact hi)
      rw [sh_op] at h
      exact h)) $$ [HO HtS HtV Hrow Hslot]
  · isplitr; · iapply (records_inv part K c (sIx j) _ (csem_send j)); iexact HR
    isplitr; · iapply (records_inv part K (sh c j) (rIx (op j)) _ (csem_recv (op j))); iexact HR
    isplitl [Hrow]; · unfold rowPts; iexact Hrow
    isplitl [Hslot]; · unfold slotPts; iexact Hslot
    isplitl [HO]; · iexact HO
    isplitl [HtS]; · iexact HtS
    isplitr; · iapply (records_reached part K c (sIx j) _ (csem_send j)); iexact HR
    isplitl [HtV]; · iexact HtV
    iapply (records_reached part K (sh c j) (rIx (op j)) _ (csem_recv (op j))); iexact HR
  iintro ⟨Hcr, HO⟩
  iapply Hk
  isplitr; · iexact HR
  isplitl [HO]; · iexists W; iexact HO
  isplitl [Hc]; · iexact Hc
  isplitl [Hcr]; · iexact Hcr
  iexact Hd

/-! ## Waits for transfers -/

/-- Before the waits on the cells `sem k`, `k` in `todo`, those in `done` over: for each to come the credit and the
    position, for each done what its payment brought and the counter at zero. -/
def waitSt (sem : Fin 8 → DmaSem sig) (P : Fin 8 → sProp 𝕄) (done todo : List (Fin 8)) : sProp 𝕄 :=
  iprop(records part K ∗ owing c 0
    ∗ chain (fun k => iprop(cred (tallyAt ((c : Thread nD τ), .dma (sem k)) () N) ∗ atPos ER ((c : Thread nD τ), .dma (sem k)) 0 ∅ 0)) todo
    ∗ chain (fun k => iprop(P k ∗ semVal ((c : Thread nD τ), .dma (sem k)) 0)) done)

/-- A wait on such a cell, its round paying `P j`. -/
theorem step_wait (sem : Fin 8 → DmaSem sig) (P : Fin 8 → sProp 𝕄) {j : Fin 8} {done todo : List (Fin 8)} (ix : Fin 17)
    (hix : csem ix = .dma (sem j)) (hexp : (sched part).expect ((c : Thread nD τ), .dma (sem j)) 0 = N)
    (hrest : bigSep ((sched part).duties ((c : Thread nD τ), .dma (sem j)) 0 \ ∅) (fun d => (sched part).payload ((c : Thread nD τ), .dma (sem j)) 0 d) = P j)
    {q : DmaSem sig} (hq : q = sem j) {src dst : Memref sig .tc .vmem S32x256 .bf16} (hcr : dst.view.dmaCredit = N)
    {hsrc : src.view.WordExact} {hdst : dst.view.WordExact}
    {α : Type} {Q : α → sProp 𝕄} {k : PUnit → Prog (TpuEff nD τ sig (Elt F) Λ₀ .tc) α} :
    waitSt part K c sem P done (j :: todo)
      ⊢ iprop((waitSt part K c sem P (j :: done) todo -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  unfold waitSt owing
  rw [chain_cons, chain_cons]
  iintro ⟨#HR, ⟨%W, HO⟩, ⟨⟨Hcr, Ha⟩, Hc⟩, Hd⟩ Hk
  ihave #HI := (records_inv part K c ix _ hix) $$ HR
  iapply (Rounds.wp_wait_rest_token 𝒱₀ ER (sched part) (c : Thread nD τ) none (κ := K (c, ix))
      (wpE_waitDma2_eq 𝒱₀ (c : Thread nD τ) none Set.univ (src := src) (dst := dst) (hsrc := hsrc) (hdst := hdst)) (Set.mem_univ _) () (O := 0) (W := W) (R := 0) (m := 0) (T := ∅)
      (by rw [Nat.zero_add, hexp, hcr])) $$ [Hcr HO Ha]
  · isplitr; · iexact HI
    isplitl [Hcr]; · rw [hcr]; iexact Hcr
    isplitl [HO]; · iexact HO
    isplitr; · rw [MayWait_zero]; iempintro
    iexact Ha
  iintro ⟨HO, Ha, -, Hp⟩
  imod (Rounds.cell_close ER (sched part) (Set.mem_univ (K (c, ix))) (fun h => h) (R := 0 + 1) (duties_later part ((c : Thread nD τ), .dma (sem j)))) $$ [Ha] with Hz
  · isplitr; · iexact HI
    iexact Ha
  iapply Hk
  isplitr; · iexact HR
  isplitl [HO]; · iexists _; iexact HO
  isplitl [Hc]; · iexact Hc
  isplitr [Hd]
  · isplitl [Hp]; · iapply (Entails.of_eq hrest); iexact Hp
    iexact Hz
  iexact Hd

/-- Waiting for what lands in slot `j`; -/
theorem step_recv {j : Fin 8} {done todo : List (Fin 8)} (hj : j ≠ 0)
    {q : DmaSem sig} (hq : q = recvS j) {src dst : Memref sig .tc .vmem S32x256 .bf16} (hcr : dst.view.dmaCredit = N)
    {hsrc : src.view.WordExact} {hdst : dst.view.WordExact}
    {α : Type} {Q : α → sProp 𝕄} {k : PUnit → Prog (TpuEff nD τ sig (Elt F) Λ₀ .tc) α} :
    waitSt part K c recvS (fun s => slotPts c s (landed part c)) done (j :: todo)
      ⊢ iprop((waitSt part K c recvS (fun s => slotPts c s (landed part c)) (j :: done) todo
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) :=
  step_wait part K c recvS (fun s => slotPts c s (landed part c)) (rIx j) (csem_recv j) (expect_recv part c j hj) (rest_recv part c j hj) hq hcr

/-- waiting for the rows sent at offset `j` to have left. -/
theorem step_sent {j : Fin 8} {done todo : List (Fin 8)} (hj : j ≠ 0)
    {q : DmaSem sig} (hq : q = sendS j) {src dst : Memref sig .tc .vmem S32x256 .bf16} (hcr : dst.view.dmaCredit = N)
    {hsrc : src.view.WordExact} {hdst : dst.view.WordExact}
    {α : Type} {Q : α → sProp 𝕄} {k : PUnit → Prog (TpuEff nD τ sig (Elt F) Λ₀ .tc) α} :
    waitSt part K c sendS (fun k => rowPts c (sh c k) (part c)) done (j :: todo)
      ⊢ iprop((waitSt part K c sendS (fun k => rowPts c (sh c k) (part c)) (j :: done) todo
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) :=
  step_wait part K c sendS (fun k => rowPts c (sh c k) (part c)) (sIx j) (csem_send j) (expect_send part c j hj) (rest_send part c j hj) hq hcr

/-- A cell no one pays closes as it stands. -/
theorem close_idle (ix : Fin 17) (q : DmaSem sig) (hix : csem ix = .dma q) (hq : ¬ (6 < q.val ∧ q.val ≠ 14)) :
    iprop(records part K ∗ atPos ER ((c : Thread nD τ), .dma q) 0 ∅ 0) ⊢ |={Set.univ}=> semVal ((c : Thread nD τ), .dma q) 0 := by
  iintro ⟨HR, Ha⟩
  iapply (Rounds.cell_close ER (sched part) (Set.mem_univ (K (c, ix))) (fun h => h) (R := 0) (duties_idle part c q hq))
  isplitl [HR]; · iapply (records_inv part K c ix _ hix); iexact HR
  iexact Ha

end Cert.Route

end
-- ==== Proof.Values.lean ====
/-
# What a device computes, reads and copies

The values the kernel's body computes on one device, as functions of what is staged there, and what its partial loads and
stores read and write.
-/
module

public import proofs.«01_k».proof.Proof.Steps

@[expose] public section

noncomputable section

namespace Cert.Route

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What a device computes -/

/-- The device's number as the kernel computes it. -/
abbrev devWord (c : Dev nD) : BitVec 32 := Scalar.remsi (Scalar.divsi (Dev.word c) 1#32) 8#32

/-- One of the device's two expert matrices. -/
def slab (e : Fin 2) (ew : S2x128x256.Idx → Elt F .f32) : Vec F S1x128x256 .f32 := fun i =>
  ew fun | ⟨0, _⟩ => e | ⟨1, _⟩ => i 1 | ⟨2, _⟩ => i 2
/-- The device's own 32 rows of the tokens. -/
def ownRows (c : Dev nD) (x : S256x128.Idx → Elt F .f32) : Vec F S32x128 .f32 := fun i =>
  x fun | ⟨0, _⟩ => ⟨32 * c.val + (i 0).val, by have hc : c.val < 8 := c.isLt; have hi : (i 0).val < 32 := (i 0).isLt; show _ < 256; omega⟩ | ⟨1, _⟩ => i 1

/-- The partial result of device `c`: over all tokens, its two experts' share. -/
def devPart (c : Dev nD) (x : S256x128.Idx → Elt F .f32) (rw' : S128x16.Idx → Elt F .f32) (ix : S256x1.Idx → Elt F .i32)
    (ew : S2x128x256.Idx → Elt F .f32) : S256x256.Idx → Elt F .bf16 :=
  k0_pay7 (k0_pay3 (k0_pay1 x) rw' ix) (k0_pay4 (k0_pay1 x) (slab 1 ew))
    (k0_pay5 (devWord c) (k0_pay1 x) ix (slab 0 ew)) (k0_pay6 (devWord c) ix)
/-- The result of device `c`, the landing buffer holding `land`: the shared expert's share of its own rows and the sum
    of the landed blocks. -/
def devOut (c : Dev nD) (x : S256x128.Idx → Elt F .f32) (sw : S128x256.Idx → Elt F .f32) (land : S8x32x256.Idx → Elt F .bf16) :
    S32x256.Idx → Elt F .f32 :=
  k0_pay11 (k0_pay10 (k0_pay9 (ownRows c x)) sw) land

/-! ## Reads and writes -/

theorem z2 : (![0, 0] : Fin 2 → Nat) = fun _ => 0 := funext fun a => by fin_cases a <;> rfl
theorem z3 : (![0, 0, 0] : Fin 3 → Nat) = fun _ => 0 := funext fun a => by fin_cases a <;> rfl

/-! ### Whole buffers -/

theorem read_x (inb) (f : S256x128.Idx → Elt F .f32) :
    (Memref.whole cc0_stg0_0 : Memref sig .tc .vmem S256x128 .f32).view.readAt (Elt F)
      (Rect.unit (s := S256x128) ![0, 0] S256x128.size inb).toLoadRect f = f := Memref.readAt_unit_zero (Elt F) cc0_stg0_0 z2 _ f
theorem read_rw (inb) (f : S128x16.Idx → Elt F .f32) :
    (Memref.whole cc0_stg1_0 : Memref sig .tc .vmem S128x16 .f32).view.readAt (Elt F)
      (Rect.unit (s := S128x16) ![0, 0] S128x16.size inb).toLoadRect f = f := Memref.readAt_unit_zero (Elt F) cc0_stg1_0 z2 _ f
theorem read_ix (inb) (f : S256x1.Idx → Elt F .i32) :
    (Memref.whole cc0_stg2_0 : Memref sig .tc .vmem S256x1 .i32).view.readAt (Elt F)
      (Rect.unit (s := S256x1) ![0, 0] S256x1.size inb).toLoadRect f = f := Memref.readAt_unit_zero (Elt F) cc0_stg2_0 z2 _ f
theorem read_sw (inb) (f : S128x256.Idx → Elt F .f32) :
    (Memref.whole cc0_stg4_0 : Memref sig .tc .vmem S128x256 .f32).view.readAt (Elt F)
      (Rect.unit (s := S128x256) ![0, 0] S128x256.size inb).toLoadRect f = f := Memref.readAt_unit_zero (Elt F) cc0_stg4_0 z2 _ f
theorem read_landed (inb) (f : S8x32x256.Idx → Elt F .bf16) :
    (Memref.whole cc0_scratch1 : Memref sig .tc .vmem S8x32x256 .bf16).view.readAt (Elt F)
      (Rect.unit (s := S8x32x256) ![0, 0, 0] S8x32x256.size inb).toLoadRect f = f := Memref.readAt_unit_zero (Elt F) cc0_scratch1 z3 _ f
theorem write_partial (inb) (f w : S256x256.Idx → Elt F .bf16) :
    ((Memref.whole cc0_scratch0 : Memref sig .tc .vmem S256x256 .bf16).access (Rect.unit (s := S256x256) ![0, 0] S256x256.size inb) : View sig .tc _ _ _).write
      (Elt F) f w Finset.univ = w := Memref.write_access_unit_zero_univ (Elt F) cc0_scratch0 z2 _ f w
theorem write_out (inb) (f w : S32x256.Idx → Elt F .f32) :
    ((Memref.whole cc0_stg5_0 : Memref sig .tc .vmem S32x256 .f32).access (Rect.unit (s := S32x256) ![0, 0] S32x256.size inb) : View sig .tc _ _ _).write
      (Elt F) f w Finset.univ = w := Memref.write_access_unit_zero_univ (Elt F) cc0_stg5_0 z2 _ f w

/-! ### Parts of buffers -/

theorem read_slab (e : Fin 2) (inb) (ew : S2x128x256.Idx → Elt F .f32) :
    (Memref.whole cc0_stg3_0 : Memref sig .tc .vmem S2x128x256 .f32).view.readAt (Elt F)
      (Rect.unit (s := S2x128x256) ![e.val, 0, 0] S1x128x256.size inb).toLoadRect ew = slab e ew := by
  funext i
  refine congrArg ew (funext fun a => Fin.ext ?_)
  match a with
  | ⟨0, _⟩ => show e.val + 1 * (i 0).val = e.val; have h : (i 0).val < 1 := (i 0).isLt; omega
  | ⟨1, _⟩ => show 0 + 1 * (i 1).val = (i 1).val; omega
  | ⟨2, _⟩ => show 0 + 1 * (i 2).val = (i 2).val; omega

theorem read_slab0 (inb) (ew : S2x128x256.Idx → Elt F .f32) :
    (Memref.whole cc0_stg3_0 : Memref sig .tc .vmem S2x128x256 .f32).view.readAt (Elt F)
      (Rect.unit (s := S2x128x256) ![0, 0, 0] S1x128x256.size inb).toLoadRect ew = slab 0 ew := read_slab 0 inb ew
theorem read_slab1 (inb) (ew : S2x128x256.Idx → Elt F .f32) :
    (Memref.whole cc0_stg3_0 : Memref sig .tc .vmem S2x128x256 .f32).view.readAt (Elt F)
      (Rect.unit (s := S2x128x256) ![1, 0, 0] S1x128x256.size inb).toLoadRect ew = slab 1 ew := read_slab 1 inb ew

theorem read_own (c : Dev nD) (inb) (x : S256x128.Idx → Elt F .f32) :
    (Memref.whole cc0_stg0_0 : Memref sig .tc .vmem S256x128 .f32).view.readAt (Elt F)
      (Rect.unit (s := S256x128) (k0_off3 c) S32x128.size inb).toLoadRect x = ownRows c x := by
  funext i
  refine congrArg x (funext fun a => Fin.ext ?_)
  match a with
  | ⟨0, _⟩ => have h : k0_off3 c 0 = 32 * c.val := congrFun (k0_off3_eq c) 0; show k0_off3 c 0 + 1 * (i 0).val = 32 * c.val + (i 0).val; omega
  | ⟨1, _⟩ => have h : k0_off3 c 1 = 0 := congrFun (k0_off3_eq c) 1; show k0_off3 c 1 + 1 * (i 1).val = (i 1).val; omega

/-- The kernel's source of a transfer is the receiver's row block. -/
theorem src_eq (c : Dev nD) (j : Fin 8) (hj : j ≠ 0) (inb) (h) :
    (Memref.whole cc0_scratch0 : Memref sig .tc .vmem S256x256 .bf16).slice
      (Rect.unit (s := S256x256) (k0_off1 c (BitVec.ofNat 32 j.val)) S32x256.size inb) h = rowM (sh c j) :=
  Memref.slice_unit_congr _ (off1_eq c j hj) _ _ _ _

/-- and a block of it credits `N`. -/
theorem sent_credit (c : Dev nD) (j : Fin 8) (inb) (h) :
    ((Memref.whole cc0_scratch0 : Memref sig .tc .vmem S256x256 .bf16).slice
      (Rect.unit (s := S256x256) (k0_off1 c (BitVec.ofNat 32 j.val)) S32x256.size inb) h).view.dmaCredit = N := rfl

/-- The device's own row block as the kernel loads it. -/
theorem own_set (c : Dev nD) (inb) :
    ((Memref.whole cc0_scratch0 : Memref sig .tc .vmem S256x256 .bf16).access (Rect.unit (s := S256x256) (k0_off2 c) S32x256.size inb)).set
      = (rowM (sh c 0)).view.set := by
  rw [rowM_set, sh_zero]
  refine (View.set_slice_whole cc0_scratch0 _).trans ?_
  have h : ∀ (o : Fin 2 → ℕ) (e : o = ![32 * c.val, 0]) (p), (Rect.unit (s := S256x256) o S32x256.size p).set = (rowR c).set :=
    fun o e p => by subst e; rfl
  exact h _ (k0_off2_eq c) _

/-- Slot 0 as the kernel accesses it. -/
theorem slot0_set (inb) :
    ((Memref.whole cc0_scratch1 : Memref sig .tc .vmem S8x32x256 .bf16).access (Rect.unit (s := S8x32x256) ![0, 0, 0] S1x32x256.size inb)).set
      = (slotM 0).view.set := by
  rw [slotM_set]
  exact View.set_slice_whole cc0_scratch1 _

/-- A `1 × 32 × 256` index without its leading coordinate. -/
def tl (y : S1x32x256.Idx) : S32x256.Idx := fun | ⟨0, _⟩ => y 1 | ⟨1, _⟩ => y 2

theorem reshape_tl (h : S1x32x256.numel = S32x256.numel) (y : S1x32x256.Idx) : Shape.reshapeEquiv h y = tl y := by
  have e : Shape.reshapeEquiv h.symm (tl y) = y := by
    refine (Shape.reshapeEquiv_cons_one (d := ![32, 256]) h.symm (tl y)).trans (funext fun a => Fin.ext ?_)
    match a with
    | ⟨0, _⟩ => show 0 = (y 0).val; have h0 : (y 0).val < 1 := (y 0).isLt; omega
    | ⟨1, _⟩ => rfl
    | ⟨2, _⟩ => rfl
  exact (congrArg (Shape.reshapeEquiv h) e.symm).trans ((Shape.reshapeEquiv_reshapeEquiv h h.symm (tl y)).trans (Shape.reshapeEquiv_self _ _))

/-- The copy of its own row block into slot 0. -/
theorem kept (part : Dev nD → S256x256.Idx → Elt F .bf16) (c : Dev nD) (inb inb')
    (fd : S8x32x256.Idx → Elt F .bf16) (i : S8x32x256.Idx) (hi : i ∈ (slotR 0).set) :
    (((Memref.whole cc0_scratch1 : Memref sig .tc .vmem S8x32x256 .bf16).access (Rect.unit (s := S8x32x256) ![0, 0, 0] S1x32x256.size inb) : View sig .tc _ _ _).write (Elt F) fd
      (k0_pay8 (((Memref.whole cc0_scratch0 : Memref sig .tc .vmem S256x256 .bf16).access (Rect.unit (s := S256x256) (k0_off2 c) S32x256.size inb')).read (Elt F) (part c))) Finset.univ
      : S8x32x256.Idx → Elt F .bf16) i = landed part c i := by
  rw [← View.set_slice_whole cc0_scratch1 (slotR 0)] at hi
  obtain ⟨y, -, rfl⟩ := Finset.mem_map.mp hi
  refine (View.write_emb_of_mem
    (v := (Memref.whole cc0_scratch1 : Memref sig .tc .vmem S8x32x256 .bf16).access (Rect.unit (s := S8x32x256) ![0, 0, 0] S1x32x256.size inb))
    fd _ (Finset.mem_univ y)).trans ?_
  show part c ((Rect.unit (s := S256x256) (k0_off2 c) S32x256.size inb').emb (Shape.reshapeEquiv shapeCasts_S32x256_S1x32x256 y)) = part (sh c _) _
  have e₁ : ((slotR 0).emb y 0 : Fin 8) = (0 : Fin 8) :=
    Fin.ext (by show 0 + 1 * (y 0).val = 0; have h0 : (y 0).val < 1 := (y 0).isLt; omega)
  have e₂ : (Rect.unit (s := S256x256) (k0_off2 c) S32x256.size inb').emb (tl y)
      = rowIx c ((slotR 0).emb y 1) ((slotR 0).emb y 2) := by
    funext a
    refine Fin.ext ?_
    match a with
    | ⟨0, _⟩ =>
      have h : k0_off2 c 0 = 32 * c.val := congrFun (k0_off2_eq c) 0
      show k0_off2 c 0 + 1 * (y 1).val = 32 * c.val + (0 + 1 * (y 1).val); omega
    | ⟨1, _⟩ =>
      have h : k0_off2 c 1 = 0 := congrFun (k0_off2_eq c) 1
      show k0_off2 c 1 + 1 * (y 2).val = 0 + 1 * (y 2).val; omega
  have e₃ : sh c ((slotR 0).emb y 0) = c := (congrArg (sh c) e₁).trans (sh_zero c)
  exact (congrArg (part c) ((congrArg (Rect.unit (s := S256x256) (k0_off2 c) S32x256.size inb').emb (reshape_tl _ y)).trans e₂)).trans
    (congrArg (fun d => part d (rowIx c ((slotR 0).emb y 1) ((slotR 0).emb y 2))) e₃.symm)

end Cert.Route

end
-- ==== Proof.Body.lean ====
/-
# The kernel's body on one device

From its share of the exchange's state, its staged inputs and its two scratch buffers, the body of the kernel on device
`c` ends with the result staged and everything else given back. It is run once, at a symbolic device.
-/
module

public import proofs.«01_k».proof.Proof.Values

@[expose] public section

noncomputable section

namespace Cert.Route

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A whole buffer of device `c`, holding `f`. -/
abbrev held (c : Dev nD) (b : Ref sig .tc) (f : Buf (Elt F) ((c : Thread nD τ).loc b)) : sProp 𝕄 := ((c : Thread nD τ).loc b) ↦{fullShare} f

/-- Device `c`'s positions and the tokens of the duties it pays. -/
def linear (c : Dev nD) : sProp 𝕄 :=
  iprop(atPos ER (barCell c) 0 ∅ 0
    ∗ (bigSep Finset.univ fun k => atPos ER (sendCell c k) 0 ∅ 0) ∗ (bigSep Finset.univ fun s => atPos ER (recvCell c s) 0 ∅ 0)
    ∗ (bigSep offs fun k => dutyTok ER (barCell (sh c k)) 0 k) ∗ (bigSep offs fun k => dutyTok ER (sendCell c k) 0 0)
    ∗ (bigSep offs fun k => dutyTok ER (recvCell (sh c k) (op k)) 0 0))

/-- The credit it starts with: its barrier's seven units, a block for each slot. -/
def credits (c : Dev nD) : sProp 𝕄 :=
  iprop(cred (tallyAt (barCell c) () 7) ∗ bigSep offs fun s => cred (tallyAt (recvCell c s) () N))

theorem univ_eq (Φ : Fin 8 → sProp 𝕄) : bigSep Finset.univ Φ = iprop(Φ 0 ∗ bigSep offs Φ) := bigSep_univ_at Φ 0

variable (part : Dev nD → S256x256.Idx → Elt F .bf16) (K : Dev nD × Fin 17 → ℕ) (c : Dev nD)

/-! ## Between the phases -/

theorem some_slot (s : Fin 8) (f : Buf (Elt F) ((c : Thread nD τ).loc cc0_scratch1)) :
    slotPts c s f ⊢ iprop(∃ f, slotPts c s f) := by
  iintro H; iexists f; iexact H

theorem some_slots (f : Buf (Elt F) ((c : Thread nD τ).loc cc0_scratch1)) :
    (bigSep offs fun s => slotPts c s f) ⊢ bigSep offs fun s => iprop(∃ f, slotPts c s f) :=
  bigSep_mono fun s _ => some_slot c s f

/-- Into the signals: the landing buffer cut into slots, slot 0 kept. -/
theorem sig_intro (f : Buf (Elt F) ((c : Thread nD τ).loc cc0_scratch1)) :
    iprop(records part K ∗ owing c (O₀ c) ∗ (bigSep offs fun k => dutyTok ER (barCell (sh c k)) 0 k) ∗ held c cc0_scratch1 f)
      ⊢ iprop(sigSt part K c sigOrder ∗ slotPts c 0 f) := by
  unfold sigSt
  rw [chain_offs _ sigOrder (by decide) (by decide), bigSep_sep', show held c cc0_scratch1 f = _ from slots_eq c f, univ_eq]
  iintro ⟨HR, HO, Ht, H0, Hs⟩
  isplitr [H0]
  · isplitl [HR]; · iexact HR
    isplitl [HO]; · iexact HO
    isplitl [Ht]; · iexact Ht
    iapply (some_slots c f); iexact Hs
  iexact H0

/-- The partial result by offset: its own row block, and one for each other device. -/
theorem rows_by_offset (f : Buf (Elt F) ((c : Thread nD τ).loc cc0_scratch0)) :
    held c cc0_scratch0 f = iprop(rowPts c (sh c 0) f ∗ bigSep offs fun k => rowPts c (sh c k) f) := by
  rw [← univ_eq (fun k => rowPts c (sh c k) f), show held c cc0_scratch0 f = _ from rows_eq c f]
  have hb : Function.Bijective (sh c) := ⟨fun k k' h => sh_inj c k k' h, sh_surj c⟩
  exact bigSep_univ_equiv (Equiv.ofBijective (sh c) hb) (fun b => rowPts c b f)

/-- Into the transfers. -/
theorem send_intro :
    iprop((records part K ∗ owing c (oweRecv c order) ∗ chain (fun k => iprop(∃ f, slotPts (sh c k) (op k) f)) order)
        ∗ (bigSep offs fun k => dutyTok ER (sendCell c k) 0 0) ∗ (bigSep offs fun k => dutyTok ER (recvCell (sh c k) (op k)) 0 0)
        ∗ held c cc0_scratch0 (part c))
      ⊢ iprop(sendSt part K c [] order ∗ rowPts c (sh c 0) (part c)) := by
  unfold sendSt
  rw [chain_offs _ order (by decide) (by decide), chain_offs _ order (by decide) (by decide), chain_nil, bigSep_sep', bigSep_sep', bigSep_sep', rows_by_offset]
  iintro ⟨⟨HR, HO, Hs⟩, HtS, HtV, H0, Hrows⟩
  isplitr [H0]
  · isplitl [HR]; · iexact HR
    isplitl [HO]; · iexact HO
    isplitl [HtS HtV Hrows Hs]
    · isplitl [HtS]; · iexact HtS
      isplitl [HtV]; · iexact HtV
      isplitl [Hrows]; · iexact Hrows
      iexact Hs
    iempintro
  iexact H0

/-- Out of them: nothing owed, and a block's credit on each send cell. -/
theorem send_elim (l : List (Fin 8)) (h : l.Nodup) (hl : l.toFinset = offs) :
    sendSt part K c l [] ⊢ iprop(owing c 0 ∗ bigSep offs fun k => cred (tallyAt (sendCell c k) () N)) := by
  unfold sendSt
  rw [chain_offs _ l h hl]
  iintro ⟨-, HO, -, Hc⟩
  isplitl [HO]; · iexact HO
  iexact Hc

/-- Into the waits on the cells `sem`, in the order `l`. -/
theorem wait_intro (sem : Fin 8 → DmaSem sig) (P : Fin 8 → sProp 𝕄) (l : List (Fin 8)) (h : l.Nodup) (hl : l.toFinset = offs) :
    iprop((records part K ∗ owing c 0) ∗ (bigSep offs fun k => cred (tallyAt ((c : Thread nD τ), .dma (sem k)) () N))
        ∗ bigSep offs fun k => atPos ER ((c : Thread nD τ), .dma (sem k)) 0 ∅ 0)
      ⊢ waitSt part K c sem P [] l := by
  unfold waitSt
  rw [chain_offs _ l h hl, chain_nil, bigSep_sep']
  iintro ⟨⟨HR, HO⟩, Hc, Ha⟩
  isplitl [HR]; · iexact HR
  isplitl [HO]; · iexact HO
  isplitl
  · isplitl [Hc]; · iexact Hc
    iexact Ha
  iempintro

/-- Out of them. -/
theorem wait_elim (sem : Fin 8 → DmaSem sig) (P : Fin 8 → sProp 𝕄) (l : List (Fin 8)) (h : l.Nodup) (hl : l.toFinset = offs) :
    waitSt part K c sem P l []
      ⊢ iprop((records part K ∗ owing c 0) ∗ bigSep offs P ∗ bigSep offs fun k => semVal ((c : Thread nD τ), .dma (sem k)) 0) := by
  unfold waitSt
  rw [chain_offs _ l h hl, chain_nil, bigSep_sep']
  iintro ⟨HR, HO, -, HP, Hz⟩
  isplitl [HR HO]
  · isplitl [HR]; · iexact HR
    iexact HO
  isplitl [HP]; · iexact HP
  iexact Hz

/-- Slot 0 after the copy of its own rows. -/
theorem slot0_kept (f : S8x32x256.Idx → Elt F .bf16) :
    ((((Memref.whole cc0_scratch1 : Memref sig .tc .vmem S8x32x256 .bf16).access
          (Rect.unit (s := S8x32x256) ![0, 0, 0] S1x32x256.size inb_S8x32x256_S1x32x256_0_0_0) : View sig .tc _ _ _).loc (c : Thread nD τ)
        ↦[(slotM 0).view.set]{fullShare}
      (((Memref.whole cc0_scratch1 : Memref sig .tc .vmem S8x32x256 .bf16).access
          (Rect.unit (s := S8x32x256) ![0, 0, 0] S1x32x256.size inb_S8x32x256_S1x32x256_0_0_0) : View sig .tc _ _ _).write (Elt F) f
        (k0_pay8 (((Memref.whole cc0_scratch0 : Memref sig .tc .vmem S256x256 .bf16).access
          (Rect.unit (s := S256x256) (k0_off2 c) S32x256.size (k0_off2_inb c))).read (Elt F) (part c))) Finset.univ)) : sProp 𝕄)
      ⊢ slotPts c 0 (landed part c) :=
  Entails.of_eq (slotPts_congr c 0 _ (landed part c) (kept part c _ _ f))

/-- Its own rows after they are loaded. -/
theorem own_held (f : S256x256.Idx → Elt F .bf16) :
    ((((Memref.whole cc0_scratch0 : Memref sig .tc .vmem S256x256 .bf16).access
          (Rect.unit (s := S256x256) (k0_off2 c) S32x256.size (k0_off2_inb c)) : View sig .tc _ _ _).loc (c : Thread nD τ)
        ↦[(rowM (sh c 0)).view.set]{fullShare} f) : sProp 𝕄)
      ⊢ rowPts c (sh c 0) f := .rfl

/-! ## The body -/

variable (x : Dev nD → S256x128.Idx → Elt F .f32) (rw' : Dev nD → S128x16.Idx → Elt F .f32) (ix : Dev nD → S256x1.Idx → Elt F .i32)
  (ew : Dev nD → S2x128x256.Idx → Elt F .f32) (sw : Dev nD → S128x256.Idx → Elt F .f32)

/-- Every device's partial result. -/
def parts (d : Dev nD) : S256x256.Idx → Elt F .bf16 := devPart d (x d) (rw' d) (ix d) (ew d)

def bodyPre : sProp 𝕄 :=
  iprop(records (parts x rw' ix ew) K ∗ linear c ∗ credits c ∗ owing c (O₀ c)
    ∗ (∃ f, held c cc0_scratch0 f) ∗ (∃ f, held c cc0_scratch1 f)
    ∗ held c cc0_stg0_0 (x c) ∗ held c cc0_stg1_0 (rw' c) ∗ held c cc0_stg2_0 (ix c) ∗ held c cc0_stg3_0 (ew c) ∗ held c cc0_stg4_0 (sw c)
    ∗ (∃ f, held c cc0_stg5_0 f))

def bodyPost : sProp 𝕄 :=
  iprop(((∃ f, held c cc0_scratch0 f) ∗ (∃ f, held c cc0_scratch1 f)
      ∗ semVal (barCell c) 0 ∗ (bigSep Finset.univ fun k => semVal (sendCell c k) 0) ∗ (bigSep Finset.univ fun s => semVal (recvCell c s) 0))
    ∗ owing c 0
    ∗ held c cc0_stg0_0 (x c) ∗ held c cc0_stg1_0 (rw' c) ∗ held c cc0_stg2_0 (ix c) ∗ held c cc0_stg3_0 (ew c) ∗ held c cc0_stg4_0 (sw c)
    ∗ held c cc0_stg5_0 (devOut c (x c) (sw c) (landed (parts x rw' ix ew) c)))

set_option maxHeartbeats 4000000 in
set_option maxRecDepth 16384 in
theorem sound_body (Kt : PUnit → sProp 𝕄) :
    iprop(bodyPre K c x rw' ix ew sw ∗ (bodyPost c x rw' ix ew sw -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part15_eq_skeleton]; unfold k0_part15_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton]
  unfold k0_part1_skel k0_part2_skel k0_part3_skel k0_part4_skel k0_part5_skel k0_part6_skel k0_part7_skel k0_part8_skel k0_part9_skel k0_part10_skel
    k0_part11_skel k0_part12_skel k0_part13_skel k0_part14_skel
  simp only [semSignalWord, semWaitWord, Prog.lift, Prog.bind_op, Prog.bind_ret, Prog.pure_eq_ret, wp_deviceId]
  unfold bodyPre linear credits
  iintro ⟨⟨#HR, ⟨HaB, HaS, HaV, HtB, HtS, HtV⟩, ⟨HcB, HcV⟩, HO, ⟨%f0, Hs0⟩, ⟨%f1, Hs1⟩, Hx, Hrw, Hix, Hew, Hsw, ⟨%f5, Hout⟩⟩, Hk⟩
  -- the signals
  ihave H := (sig_intro (parts x rw' ix ew) K c f1) $$ [HO HtB Hs1]
  · isplitr; · iexact HR
    isplitl [HO]; · iexact HO
    isplitl [HtB]; · iexact HtB
    iexact Hs1
  icases H with ⟨H, Hslot⟩
  iapply (step_signal (parts x rw' ix ew) K c (dev1_eq c) (by decide) (by decide)) $$ H; iintro H
  iapply (step_signal (parts x rw' ix ew) K c (dev2_eq c) (by decide) (by decide)) $$ H; iintro H
  iapply (step_signal (parts x rw' ix ew) K c (dev3_eq c) (by decide) (by decide)) $$ H; iintro H
  iapply (step_signal (parts x rw' ix ew) K c (dev4_eq c) (by decide) (by decide)) $$ H; iintro H
  iapply (step_signal (parts x rw' ix ew) K c (dev5_eq c) (by decide) (by decide)) $$ H; iintro H
  iapply (step_signal (parts x rw' ix ew) K c (dev6_eq c) (by decide) (by decide)) $$ H; iintro H
  iapply (step_signal (parts x rw' ix ew) K c (dev7_eq c) (by decide) (by decide)) $$ H; iintro H
  -- the partial result
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := Memref.whole cc0_stg1_0) (Finset.subset_univ _)) $$ Hrw; iintro Hrw
  rw [read_rw]
  iapply (wp_load 𝒱₀ (c : Thread nD τ) none Set.univ (m := Memref.whole cc0_stg2_0) (Finset.subset_univ _)) $$ Hix; iintro Hix
  rw [read_ix]
  iapply (wp_load 𝒱₀ (c : Thread nD τ) none Set.univ (m := Memref.whole cc0_stg3_0) (Finset.subset_univ _)) $$ Hew; iintro Hew
  rw [read_slab0]
  iapply (wp_load 𝒱₀ (c : Thread nD τ) none Set.univ (m := Memref.whole cc0_stg3_0) (Finset.subset_univ _)) $$ Hew; iintro Hew
  rw [read_slab1]
  iapply (wp_load 𝒱₀ (c : Thread nD τ) none Set.univ (m := Memref.whole cc0_scratch0) (Finset.subset_univ _)) $$ Hs0; iintro Hs0
  iapply (wp_store 𝒱₀ (c : Thread nD τ) none Set.univ (m := Memref.whole cc0_scratch0)
    (r := Rect.unit (s := S256x256) ![0, 0] S256x256.size inb_S256x256_S256x256_0_0) (Mk := Finset.univ) (Finset.subset_univ _)) $$ Hs0; iintro Hs0
  rw [write_partial]
  -- the barrier
  iapply (step_barrier (parts x rw' ix ew) K c (by decide)) $$ [H HcB HaB]
  · isplitl [H]; · iexact H
    isplitl [HcB]; · iexact HcB
    iexact HaB
  iintro ⟨-, HO, Hsl, HzB⟩
  -- the transfers
  ihave H := (send_intro (parts x rw' ix ew) K c) $$ [HO Hsl HtS HtV Hs0]
  · isplitl [HO Hsl]
    · isplitr; · iexact HR
      isplitl [HO]; · iexact HO
      iexact Hsl
    isplitl [HtS]; · iexact HtS
    isplitl [HtV]; · iexact HtV
    iexact Hs0
  icases H with ⟨H, Hown⟩
  iapply (step_send (parts x rw' ix ew) K c (by decide) (dev8_eq c) (src_eq c 6 (by decide) _ _) rfl rfl rfl) $$ H; iintro H
  iapply (step_send (parts x rw' ix ew) K c (by decide) (dev9_eq c) (src_eq c 2 (by decide) _ _) rfl rfl rfl) $$ H; iintro H
  iapply (step_send (parts x rw' ix ew) K c (by decide) (dev10_eq c) (src_eq c 5 (by decide) _ _) rfl rfl rfl) $$ H; iintro H
  iapply (step_send (parts x rw' ix ew) K c (by decide) (dev11_eq c) (src_eq c 7 (by decide) _ _) rfl rfl rfl) $$ H; iintro H
  iapply (step_send (parts x rw' ix ew) K c (by decide) (dev12_eq c) (src_eq c 4 (by decide) _ _) rfl rfl rfl) $$ H; iintro H
  iapply (step_send (parts x rw' ix ew) K c (by decide) (dev13_eq c) (src_eq c 1 (by decide) _ _) rfl rfl rfl) $$ H; iintro H
  iapply (step_send (parts x rw' ix ew) K c (by decide) (dev14_eq c) (src_eq c 3 (by decide) _ _) rfl rfl rfl) $$ H; iintro H
  -- its own rows, into slot 0
  unfold rowPts slotPts
  iapply (wp_load_rect 𝒱₀ (c : Thread nD τ) none Set.univ (m := Memref.whole cc0_scratch0)
    (r := Rect.unit (s := S256x256) (k0_off2 c) S32x256.size (k0_off2_inb c)) (own_set c _).le) $$ Hown; iintro Hown
  ihave Hown := (own_held c (parts x rw' ix ew c)) $$ Hown
  iapply (wp_load_rect 𝒱₀ (c : Thread nD τ) none Set.univ (m := Memref.whole cc0_scratch1)
    (r := Rect.unit (s := S8x32x256) ![0, 0, 0] S1x32x256.size inb_S8x32x256_S1x32x256_0_0_0) (slot0_set _).le) $$ Hslot; iintro Hslot
  iapply (wp_store 𝒱₀ (c : Thread nD τ) none Set.univ (m := Memref.whole cc0_scratch1)
    (r := Rect.unit (s := S8x32x256) ![0, 0, 0] S1x32x256.size inb_S8x32x256_S1x32x256_0_0_0) (Mk := Finset.univ) (slot0_set _).le) $$ Hslot; iintro Hslot
  ihave Hslot := (slot0_kept (parts x rw' ix ew) c f1) $$ Hslot
  -- the shared expert on its own tokens
  iapply (wp_load 𝒱₀ (c : Thread nD τ) none Set.univ (m := Memref.whole cc0_stg0_0) (Finset.subset_univ _)) $$ Hx; iintro Hx
  rw [read_own]
  iapply (wp_load 𝒱₀ (c : Thread nD τ) none Set.univ (m := Memref.whole cc0_stg4_0) (Finset.subset_univ _)) $$ Hsw; iintro Hsw
  rw [read_sw]
  -- the blocks come in
  ihave H := (send_elim (parts x rw' ix ew) K c [3, 1, 4, 7, 5, 2, 6] (by decide) (by decide)) $$ H
  icases H with ⟨HO, HcS⟩
  ihave HaS := (Entails.of_eq (univ_eq fun k => atPos ER (sendCell c k) 0 ∅ 0)) $$ HaS
  icases HaS with ⟨HaS0, HaS⟩
  ihave HaV := (Entails.of_eq (univ_eq fun s => atPos ER (recvCell c s) 0 ∅ 0)) $$ HaV
  icases HaV with ⟨HaV0, HaV⟩
  ihave H := (wait_intro (parts x rw' ix ew) K c recvS (fun s => slotPts c s (landed (parts x rw' ix ew) c)) sigOrder (by decide) (by decide)) $$ [HO HcV HaV]
  · isplitl [HO]
    · isplitr; · iexact HR
      iexact HO
    isplitl [HcV]; · iexact HcV
    iexact HaV
  iapply (step_recv (parts x rw' ix ew) K c (j := 1) (by decide) rfl (slot_credit 1)) $$ H; iintro H
  iapply (step_recv (parts x rw' ix ew) K c (j := 2) (by decide) rfl (slot_credit 2)) $$ H; iintro H
  iapply (step_recv (parts x rw' ix ew) K c (j := 3) (by decide) rfl (slot_credit 3)) $$ H; iintro H
  iapply (step_recv (parts x rw' ix ew) K c (j := 4) (by decide) rfl (slot_credit 4)) $$ H; iintro H
  iapply (step_recv (parts x rw' ix ew) K c (j := 5) (by decide) rfl (slot_credit 5)) $$ H; iintro H
  iapply (step_recv (parts x rw' ix ew) K c (j := 6) (by decide) rfl (slot_credit 6)) $$ H; iintro H
  iapply (step_recv (parts x rw' ix ew) K c (j := 7) (by decide) rfl (slot_credit 7)) $$ H; iintro H
  ihave H := (wait_elim (parts x rw' ix ew) K c recvS (fun s => slotPts c s (landed (parts x rw' ix ew) c)) [7, 6, 5, 4, 3, 2, 1] (by decide) (by decide)) $$ H
  icases H with ⟨⟨-, HO⟩, Hsl, HzV⟩
  ihave Hs1 := (Entails.of_eq (((slots_eq c (landed (parts x rw' ix ew) c)).trans (univ_eq _)).symm)) $$ [Hslot Hsl]
  · isplitl [Hslot]; · iexact Hslot
    iexact Hsl
  iapply (wp_load 𝒱₀ (c : Thread nD τ) none Set.univ (m := Memref.whole cc0_scratch1) (Finset.subset_univ _)) $$ Hs1; iintro Hs1
  rw [read_landed]
  iapply (wp_load 𝒱₀ (c : Thread nD τ) none Set.univ (m := Memref.whole cc0_stg5_0) (Finset.subset_univ _)) $$ Hout; iintro Hout
  iapply (wp_store 𝒱₀ (c : Thread nD τ) none Set.univ (m := Memref.whole cc0_stg5_0)
    (r := Rect.unit (s := S32x256) ![0, 0] S32x256.size inb_S32x256_S32x256_0_0) (Mk := Finset.univ) (Finset.subset_univ _)) $$ Hout; iintro Hout
  rw [write_out]
  -- its own blocks have left
  ihave H := (wait_intro (parts x rw' ix ew) K c sendS (fun k => rowPts c (sh c k) (parts x rw' ix ew c)) order (by decide) (by decide)) $$ [HO HcS HaS]
  · isplitl [HO]
    · isplitr; · iexact HR
      iexact HO
    isplitl [HcS]; · iexact HcS
    iexact HaS
  iapply (step_sent (parts x rw' ix ew) K c (j := 6) (by decide) rfl (sent_credit c 6 _ _)) $$ H; iintro H
  iapply (step_sent (parts x rw' ix ew) K c (j := 2) (by decide) rfl (sent_credit c 2 _ _)) $$ H; iintro H
  iapply (step_sent (parts x rw' ix ew) K c (j := 5) (by decide) rfl (sent_credit c 5 _ _)) $$ H; iintro H
  iapply (step_sent (parts x rw' ix ew) K c (j := 7) (by decide) rfl (sent_credit c 7 _ _)) $$ H; iintro H
  iapply (step_sent (parts x rw' ix ew) K c (j := 4) (by decide) rfl (sent_credit c 4 _ _)) $$ H; iintro H
  iapply (step_sent (parts x rw' ix ew) K c (j := 1) (by decide) rfl (sent_credit c 1 _ _)) $$ H; iintro H
  iapply (step_sent (parts x rw' ix ew) K c (j := 3) (by decide) rfl (sent_credit c 3 _ _)) $$ H; iintro H
  ihave H := (wait_elim (parts x rw' ix ew) K c sendS (fun k => rowPts c (sh c k) (parts x rw' ix ew c)) [3, 1, 4, 7, 5, 2, 6] (by decide) (by decide)) $$ H
  icases H with ⟨⟨-, HO⟩, Hrows, HzS⟩
  ihave Hs0 := (Entails.of_eq (rows_by_offset c (parts x rw' ix ew c)).symm) $$ [Hown Hrows]
  · isplitl [Hown]; · iexact Hown
    iexact Hrows
  imod (close_idle (parts x rw' ix ew) K c (sIx 0) (sendS 0) (csem_send 0) (by decide)) $$ [HaS0] with HzS0
  · isplitr; · iexact HR
    iexact HaS0
  imod (close_idle (parts x rw' ix ew) K c (rIx 0) (recvS 0) (csem_recv 0) (by decide)) $$ [HaV0] with HzV0
  · isplitr; · iexact HR
    iexact HaV0
  rw [wp_ret]; imodintro
  iapply Hk
  unfold bodyPost
  isplitl [Hs0 Hs1 HzB HzS HzS0 HzV HzV0]
  · isplitl [Hs0]; · iexists _; iexact Hs0
    isplitl [Hs1]; · iexists _; iexact Hs1
    isplitl [HzB]; · iexact HzB
    isplitl [HzS HzS0]
    · iapply (Entails.of_eq (univ_eq fun k => semVal (sendCell c k) 0).symm)
      isplitl [HzS0]; · iexact HzS0
      iexact HzS
    iapply (Entails.of_eq (univ_eq fun s => semVal (recvCell c s) 0).symm)
    isplitl [HzV0]; · iexact HzV0
    iexact HzV
  isplitl [HO]; · iexact HO
  isplitl [Hx]; · iexact Hx
  isplitl [Hrw]; · iexact Hrw
  isplitl [Hix]; · iexact Hix
  isplitl [Hew]; · iexact Hew
  isplitl [Hsw]; · iexact Hsw
  iexact Hout

end Cert.Route

end
-- ==== Proof.Deal.lean ====
/-
# The exchange's state at the launch

The launch makes, for every device, the state of its seventeen cells, their round 0 open, and the tokens of their duties;
it allocates the invariants of all cells at once and deals every device the tokens of the duties that it pays itself. And
the credit the launch gives a device is what the others owe it: seven units for its barrier, a block for each slot.
-/
module

public import proofs.«01_k».proof.Proof.Body

@[expose] public section

noncomputable section

namespace Cert.Route

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-! ## The cells, enumerated -/

/-- The kernel's own semaphores: eight for sends, eight for receives. -/
def osem (j : Fin 16) : SemLoc sig := .dma ⟨6 + j.val, by have h := j.isLt; show 6 + j.val < 22; omega⟩

theorem own_split (Φ : SemLoc sig → sProp 𝕄) :
    (bigSep Finset.univ fun j : Fin 16 => Φ (osem j))
      = iprop((bigSep Finset.univ fun k : Fin 8 => Φ (.dma (sendS k))) ∗ bigSep Finset.univ fun s : Fin 8 => Φ (.dma (recvS s))) := by
  rw [bigSep_univ_equiv (finSumFinEquiv : Fin 8 ⊕ Fin 8 ≃ Fin (8 + 8)) (fun j : Fin 16 => Φ (osem j)), bigSep_univ_sum]
  have h : ∀ s : Fin 8, osem (Fin.natAdd 8 s) = .dma (recvS s) := fun s =>
    congrArg SemLoc.dma (Fin.ext (by show 6 + (8 + s.val) = 14 + s.val; omega))
  exact congrArg₂ _ rfl (bigSep_congr fun s _ => congrArg Φ (h s))

theorem cells_split (Φ : SemLoc sig → sProp 𝕄) :
    (bigSep Finset.univ fun j : Fin 17 => Φ (csem j))
      = iprop(Φ (.reg barS) ∗ (bigSep Finset.univ fun k : Fin 8 => Φ (.dma (sendS k))) ∗ bigSep Finset.univ fun s : Fin 8 => Φ (.dma (recvS s))) := by
  rw [bigSep_univ_equiv (finSumFinEquiv : Fin 1 ⊕ Fin 16 ≃ Fin (1 + 16)) (fun j : Fin 17 => Φ (csem j)), bigSep_univ_sum,
    ← own_split Φ, show (Finset.univ : Finset (Fin 1)) = {0} from rfl, bigSep_singleton]
  have h : ∀ j : Fin 16, csem (Fin.natAdd 1 j) = osem j := fun j => by
    unfold csem osem
    rw [dif_neg (by show ¬ 1 + j.val = 0; omega)]
    exact congrArg SemLoc.dma (Fin.ext (by show 5 + (1 + j.val) = 6 + j.val; omega))
  exact congrArg₂ _ rfl (bigSep_congr fun j _ => congrArg Φ (h j))

theorem csem_injective : Function.Injective csem := by decide
theorem kcell_injective : Function.Injective (kcell : Dev nD × Fin 17 → GSem nD τ sig) := by
  rintro ⟨c, j⟩ ⟨c', j'⟩ h
  have h₁ : c = c' := congrArg (fun g : GSem nD τ sig => g.1.1) h
  have h₂ : j = j' := csem_injective (congrArg (fun g : GSem nD τ sig => g.2) h)
  rw [h₁, h₂]
/-- All cells. -/
def allCells : Finset (GSem nD τ sig) := Finset.univ.map ⟨kcell, kcell_injective⟩

/-! ## The tokens -/

/-- The tokens minted: per device and offset one of its barrier's, one of a send cell's, one of a receive cell's. -/
def tokOf (x : Fin 3 × Dev nD × Fin 8) : GSem nD τ sig × ℕ × Fin 8 :=
  match x.1 with
  | 0 => (barCell x.2.1, 0, x.2.2)
  | 1 => (sendCell x.2.1 x.2.2, 0, 0)
  | 2 => (recvCell x.2.1 x.2.2, 0, 0)

theorem tokOf_injective : Function.Injective tokOf := by
  rintro ⟨i, c, k⟩ ⟨i', c', k'⟩ h
  have hc : c = c' := by
    have h' := congrArg (fun x : GSem nD τ sig × ℕ × Fin 8 => x.1.1.1) h
    fin_cases i <;> fin_cases i' <;> exact h'
  subst hc
  have hs := congrArg (fun x : GSem nD τ sig × ℕ × Fin 8 => (x.1.2, x.2.2)) h
  revert hs
  clear h
  revert k k' i i'
  decide +revert
def allToks : Finset (GSem nD τ sig × ℕ × Fin 8) := Finset.univ.map ⟨tokOf, tokOf_injective⟩

/-- The tokens of device `c`'s own cells. -/
def toks (c : Dev nD) : sProp 𝕄 :=
  iprop((bigSep Finset.univ fun k => dutyTok ER (barCell c) 0 k) ∗ (bigSep Finset.univ fun k => dutyTok ER (sendCell c k) 0 0)
    ∗ bigSep Finset.univ fun s => dutyTok ER (recvCell c s) 0 0)
/-- The tokens of the duties it pays. -/
def payToks (c : Dev nD) : sProp 𝕄 :=
  iprop((bigSep Finset.univ fun k => dutyTok ER (barCell (sh c k)) 0 k) ∗ (bigSep Finset.univ fun k => dutyTok ER (sendCell c k) 0 0)
    ∗ bigSep Finset.univ fun k => dutyTok ER (recvCell (sh c k) (op k)) 0 0)

/-- A family over devices and offsets, dealt to the device that reaches each by its offset. -/
theorem deal (Φ : Dev nD → Fin 8 → sProp 𝕄) :
    (bigSep Finset.univ fun c => bigSep Finset.univ fun k => Φ c k) = bigSep Finset.univ fun c => bigSep Finset.univ fun k => Φ (sh c k) k := by
  rw [BI.bigSep_univ_comm, bigSep_congr (s := Finset.univ) fun k _ => bigSep_univ_equiv (rot k) fun c => Φ c k, BI.bigSep_univ_comm]
  rfl

/-- The offset the other way, as a bijection. -/
def opE : Fin 8 ≃ Fin 8 := ⟨op, op, op_op, op_op⟩

theorem toks_deal : (bigSep Finset.univ fun c : Dev nD => (toks c : sProp 𝕄)) = bigSep Finset.univ fun c : Dev nD => payToks c := by
  unfold toks payToks
  rw [bigSep_sep', bigSep_sep', bigSep_sep', bigSep_sep', deal fun c k => dutyTok ER (barCell c) 0 k,
    bigSep_congr (s := Finset.univ) (fun (c : Dev nD) _ => bigSep_univ_equiv opE fun s => (dutyTok ER (recvCell c s) 0 0 : sProp 𝕄)),
    deal fun c k => dutyTok ER (recvCell c (opE k)) 0 0]
  rfl

/-! ## The launch element and the global step -/

variable (part : Dev nD → S256x256.Idx → Elt F .bf16)

/-- What the launch element deals device `c`. -/
def G (c : Dev nD) : sProp 𝕄 :=
  iprop((bigSep Finset.univ fun j : Fin 17 => roundState ER (sched part) (kcell (c, j)) 0)
    ∗ ((bigSep Finset.univ fun j : Fin 17 => atPos ER (kcell (c, j)) 0 ∅ 0) ∗ bigSep Finset.univ fun j : Fin 17 => reached ER (kcell (c, j)) 0) ∗ toks c)

theorem fund_cells : BI.own (ER (initOf allCells allToks)) ⊢ (|==> bigSep Finset.univ (G part) : sProp 𝕄) := by
  have hC (Φ : GSem nD τ sig → sProp 𝕄) : bigSep allCells Φ = bigSep Finset.univ fun c : Dev nD => bigSep Finset.univ fun j : Fin 17 => Φ (kcell (c, j)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks
    rw [bigSep_map, bigSep_univ_prod, bigSep_univ_eq_bigSepL [0, 1, 2] (by decide) (by decide), bigSepL_cons_cons, bigSepL_cons_cons, bigSepL_singleton,
      bigSep_univ_prod, bigSep_univ_prod, bigSep_univ_prod, bigSep_sep', bigSep_sep']
    rfl
  iintro H
  imod (Rounds.fund ER (sched part) allCells allToks) $$ H with ⟨Hst, Hr, Hat, Htok⟩
  imodintro
  ihave Hst := (Entails.of_eq (hC fun g => roundState ER (sched part) g 0)) $$ Hst
  ihave Hat := (Entails.of_eq (hC fun g => atPos ER g 0 ∅ 0)) $$ Hat
  ihave Hr := (Entails.of_eq (hC fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

/-- The launch's own and the runtime's semaphores at zero are the cells' counters. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun j : Fin 17 => semVal (kcell (c, j)) 0 : sProp 𝕄) := by
  rw [cells_split (F := F) fun sm => semVal ((c : Thread nD τ), sm) 0, ← own_split (F := F) fun sm => semVal ((c : Thread nD τ), sm) 0]
  unfold unscopedSems0 Pipeline.ownSems0
  rw [bigSep_eq_bigSepL_of_eq [SemLoc.reg barS] (by decide) (by decide)]
  rfl

theorem alloc_cells (c : Dev nD) :
    iprop(Pipeline.ownSems0 (Ix := Unit) (Name := ℕ) (U := UU) (Lvl := ℕ) (Val := Elt F) (τ := τ) osem c ∗ unscopedSems0 c ∗ G part c)
      ⊢ |={Set.univ}=> iprop((bigSep Finset.univ fun j => iprop(∃ κ : ℕ, cellInv ER (sched part) κ (kcell (c, j))))
          ∗ ((bigSep Finset.univ fun j : Fin 17 => atPos ER (kcell (c, j)) 0 ∅ 0) ∗ bigSep Finset.univ fun j : Fin 17 => reached ER (kcell (c, j)) 0) ∗ toks c) := by
  unfold G
  iintro ⟨Ho, Hu, Hst, Hat, Htok⟩
  ihave Hv := (Entails.of_eq (sems0_eq (F := F) c)) $$ [Ho Hu]
  · isplitl [Hu]; · iexact Hu
    iexact Ho
  imod (show iprop((bigSep Finset.univ fun j : Fin 17 => semVal (kcell (c, j)) 0) ∗ bigSep Finset.univ fun j : Fin 17 => roundState ER (sched part) (kcell (c, j)) 0)
      ⊢ (|={Set.univ}=> bigSep Finset.univ fun j => iprop(∃ κ : ℕ, cellInv ER (sched part) κ (kcell (c, j))) : sProp 𝕄) from by
        rw [← bigSep_sep']
        exact (bigSep_mono fun j _ => (Rounds.body_intro ER (sched part) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-- What all devices know, but for the levels. -/
def known (K : Dev nD × Fin 17 → ℕ) : sProp 𝕄 :=
  iprop((bigSep Finset.univ fun cj : Dev nD × Fin 17 => cellInv ER (sched part) (K cj) (kcell cj))
    ∗ bigSep Finset.univ fun cj : Dev nD × Fin 17 => reached ER (kcell cj) 0)

instance known_persistent (K : Dev nD × Fin 17 → ℕ) : BI.Persistent (known part K) := by unfold known; infer_instance

/-- What the global step makes of it for device `c`. -/
def G' (c : Dev nD) : sProp 𝕄 := iprop(∃ K, known part K ∗ linear c)

theorem drop_zero (Φ : Fin 8 → sProp 𝕄) : bigSep Finset.univ Φ ⊢ bigSep offs Φ := bigSep_subset (Finset.subset_univ _)

theorem linear_intro (c : Dev nD) :
    iprop((bigSep Finset.univ fun j : Fin 17 => atPos ER (kcell (c, j)) 0 ∅ 0) ∗ payToks c) ⊢ (linear c : sProp 𝕄) := by
  rw [cells_split (F := F) fun sm => atPos ER ((c : Thread nD τ), sm) 0 ∅ 0]
  unfold payToks linear
  iintro ⟨⟨HB, HS, HV⟩, HtB, HtS, HtV⟩
  isplitl [HB]; · iexact HB
  isplitl [HS]; · iexact HS
  isplitl [HV]; · iexact HV
  isplitl [HtB]; · iapply (drop_zero fun k => dutyTok ER (barCell (sh c k)) 0 k); iexact HtB
  isplitl [HtS]; · iapply (drop_zero fun k => dutyTok ER (sendCell c k) 0 0); iexact HtS
  iapply (drop_zero fun k => dutyTok ER (recvCell (sh c k) (op k)) 0 0); iexact HtV

/-- Handing a persistent fact to every member of a family. -/
theorem share_out {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- The allocated cells, their positions and tokens, regrouped by the device that uses them. -/
theorem regroup : (bigSep Finset.univ fun c : Dev nD => iprop((bigSep Finset.univ fun j => iprop(∃ κ : ℕ, cellInv ER (sched part) κ (kcell (c, j))))
          ∗ ((bigSep Finset.univ fun j : Fin 17 => atPos ER (kcell (c, j)) 0 ∅ 0) ∗ bigSep Finset.univ fun j : Fin 17 => reached ER (kcell (c, j)) 0) ∗ toks c) : sProp 𝕄)
    ⊢ bigSep Finset.univ (G' part) := by
  rw [bigSep_sep', bigSep_sep', bigSep_sep', ← bigSep_univ_prod (fun cj : Dev nD × Fin 17 => iprop(∃ κ : ℕ, cellInv ER (sched part) κ (kcell cj))),
    ← bigSep_univ_prod (fun cj : Dev nD × Fin 17 => (reached ER (kcell cj) 0 : sProp 𝕄)), toks_deal]
  iintro ⟨HI, ⟨Hat, HR⟩, Htok⟩
  ihave HK := (BI.bigSep_exists_pi Finset.univ (fun (cj : Dev nD × Fin 17) (κ : ℕ) => (cellInv ER (sched part) κ (kcell cj) : sProp 𝕄))) $$ HI
  icases HK with ⟨%K, HI⟩
  iapply (share_out (R := known part K) (Φ := fun c => iprop((bigSep Finset.univ fun j : Fin 17 => atPos ER (kcell (c, j)) 0 ∅ 0) ∗ payToks c)) fun c => by
    unfold G'
    iintro ⟨HK, H⟩
    iexists K
    isplitl [HK]; · iexact HK
    iapply (linear_intro c); iexact H)
  isplitl [HI HR]
  · unfold known
    isplitl [HI]; · iexact HI
    iexact HR
  rw [bigSep_sep']
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ G part c) : sProp 𝕄)
    ⊢ |={Set.univ}=> bigSep Finset.univ (G' part) :=
  ((bigSep_mono fun c _ => alloc_cells part c).trans (bigSep_fupd _ _)).trans (BI.fupd_mono (regroup part))

/-! ## The launch credit -/

theorem bar_eq {a b : Dev nD} (h : barCell a = barCell b) : a = b := congrArg (fun g : GSem nD τ sig => g.1.1) h

/-- Over all devices, one pays device `c` at offset `k`. -/
theorem one_payer (k : Fin 8) (n : ℕ) (c : Dev nD) (P : Dev nD → Prop) [DecidablePred P] (hP : ∀ d, P d ↔ d = c) :
    (∑ d : Dev nD, if P (sh d k) then n else 0) = n := by
  rw [show (∑ d : Dev nD, if P (sh d k) then n else 0) = ∑ d : Dev nD, if P d then n else 0 from Equiv.sum_comp (rot k) fun d => if P d then n else 0,
    Finset.sum_eq_single c (fun d _ hd => if_neg fun h => hd ((hP d).mp h)) fun h => absurd (Finset.mem_univ c) h, if_pos ((hP c).mpr rfl)]

theorem owed_recv_bar (c : Dev nD) (l : List (Fin 8)) : (∑ d : Dev nD, oweRecv d l (barCell c) ()) = 0 :=
  Finset.sum_eq_zero fun d _ => by
    by_contra h
    obtain ⟨e, s, h'⟩ := oweRecv_pos d (barCell c) () l (Nat.pos_of_ne_zero h)
    exact absurd (congrArg (fun g : GSem nD τ sig => g.2) h') (fun h => nomatch h)

theorem owed_bar (c : Dev nD) : ∀ l : List (Fin 8), (∑ d : Dev nD, oweBar d l (barCell c) ()) = l.length
  | [] => owed_recv_bar c order
  | k :: l => by
    have h : ∀ d, oweBar d (k :: l) (barCell c) () = oweBar d l (barCell c) () + if barCell c = barCell (sh d k) ∧ () = () then 1 else 0 := fun d => by
      rw [← tallyAt_apply]; rfl
    rw [Finset.sum_congr rfl fun d _ => h d, Finset.sum_add_distrib, owed_bar c l,
      one_payer k 1 c (fun d => barCell c = barCell d ∧ () = ()) fun d => ⟨fun h => (bar_eq h.1).symm, fun h => ⟨by rw [h], rfl⟩⟩]
    rfl

theorem owed_recv (c : Dev nD) (s : Fin 8) : ∀ l : List (Fin 8), (∑ d : Dev nD, oweRecv d l (recvCell c s) ()) = l.count (op s) * N
  | [] => by rw [List.count_nil, Nat.zero_mul]; exact Finset.sum_eq_zero fun d _ => rfl
  | k :: l => by
    have h : ∀ d, oweRecv d (k :: l) (recvCell c s) () = oweRecv d l (recvCell c s) () + if recvCell c s = recvCell (sh d k) (op k) ∧ () = () then N else 0 := fun d => by
      rw [← tallyAt_apply]; rfl
    rw [Finset.sum_congr rfl fun d _ => h d, Finset.sum_add_distrib, owed_recv c s l, List.count_cons]
    by_cases hk : s = op k
    · subst hk
      rw [op_op, one_payer k N c (fun d => recvCell c (op k) = recvCell d (op k) ∧ () = ())
          fun d => ⟨fun h => (congrArg (fun g : GSem nD τ sig => g.1.1) h.1).symm, fun h => ⟨by rw [h], rfl⟩⟩, if_pos (by simp), Nat.add_mul, Nat.one_mul]
    · rw [if_neg (by simpa using fun h => hk (by rw [h, op_op])), Nat.add_zero, Finset.sum_eq_zero fun d _ => if_neg fun h => hk ?_, Nat.add_zero]
      have h' : (14 + s.val) = 14 + (op k).val := congrArg (fun g : GSem nD τ sig => match g.2 with | .dma q => q.val | .reg _ => 0) h.1
      exact Fin.ext (by omega)

/-- A bar's unit is owed to no receive cell. -/
theorem bar_off_recv (d c : Dev nD) (s : Fin 8) : (tallyAt (barCell d) () 1 : CellTallies nD τ sig Unit) (recvCell c s) () = 0 := by
  rw [tallyAt_apply]
  refine if_neg fun h => ?_
  have h₂ : (SemLoc.dma (recvS s) : SemLoc sig) = .reg barS := congrArg (fun g : GSem nD τ sig => g.2) h.1
  exact nomatch h₂

theorem owed_bars_recv (c : Dev nD) (s : Fin 8) : ∀ l : List (Fin 8), (∑ d : Dev nD, oweBar d l (recvCell c s) ()) = ∑ d : Dev nD, oweRecv d order (recvCell c s) ()
  | [] => rfl
  | k :: l => by
    have h : ∀ d, oweBar d (k :: l) (recvCell c s) () = oweBar d l (recvCell c s) () := fun d => by
      exact (congrArg (oweBar d l (recvCell c s) () + ·) (bar_off_recv (sh d k) c s)).trans (Nat.add_zero _)
    rw [Finset.sum_congr rfl fun d _ => h d, owed_bars_recv c s l]

theorem launch_bar (c : Dev nD) :
    tallyOn (barCell c) (launchCredit (Pipeline.owing O₀) 0 (barCell c)) = (tallyAt (barCell c) () 7 : CellTallies nD τ sig Unit) := by
  unfold tallyAt
  refine congrArg _ (Finsupp.ext fun u => ?_)
  cases u
  rw [Pipeline.launchCredit_owing, Finsupp.single_eq_same]
  exact owed_bar c sigOrder

theorem launch_recv (c : Dev nD) (s : Fin 8) (hs : s ≠ 0) :
    tallyOn (recvCell c s) (launchCredit (Pipeline.owing O₀) 0 (recvCell c s)) = (tallyAt (recvCell c s) () N : CellTallies nD τ sig Unit) := by
  unfold tallyAt
  refine congrArg _ (Finsupp.ext fun u => ?_)
  cases u
  rw [Pipeline.launchCredit_owing, Finsupp.single_eq_same]
  refine (owed_bars_recv c s sigOrder).trans ((owed_recv c s order).trans ?_)
  have h : ∀ s : Fin 8, s ≠ 0 → order.count (op s) = 1 := by decide
  rw [h s hs, Nat.one_mul]

theorem recv_injective : Function.Injective fun s : Fin 8 => (SemLoc.dma (recvS s) : SemLoc sig) := by decide

theorem credits_intro (c : Dev nD) : (Pipeline.launchCred O₀ c : sProp 𝕄) ⊢ credits c := by
  unfold Pipeline.launchCred credits
  rw [bigSep_univ_at _ (SemLoc.reg barS), launch_bar]
  refine sep_mono_right ?_
  refine (bigSep_subset (t := offs.map ⟨fun s : Fin 8 => (SemLoc.dma (recvS s) : SemLoc sig), recv_injective⟩) (by decide)).trans ?_
  rw [bigSep_map]
  exact bigSep_mono fun s hs => Entails.of_eq (congrArg cred (launch_recv c s ((mem_offs s).mp hs)))

end Cert.Route

end
-- ==== Proof.Launch.lean ====
/-
# The run of the whole mesh

Every device runs the body once, from its own arguments; the launch supplies the state the body starts from. What comes
out: on every device the result array holds `devOut` of the arguments, the arguments are unchanged, and every semaphore
counter is zero again.
-/
module

public import proofs.«01_k».proof.Proof.Deal
public import proofs.«01_k».proof.Proof.Gen.KernelIdeal.Launch
public import proofs.«01_k».proof.Proof.Gen.KernelIdeal.Points
public import Idealize.ShloMosaic.Lib.Pipeline.Launch
public import Idealize.ShloMosaic.Lib.Pipeline.Value
public import Idealize.ShloMosaic.Lib.Pipeline.Kit
public import Idealize.ShloMosaic.Lib.Quiescent
public import Idealize.ShloMosaic.Lib.Pipeline.CollectiveSegs

@[expose] public section

noncomputable section

namespace Cert.Route

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The arguments and the proof data -/

def argX (c : Dev nD) : S256x128.Idx → Elt F .f32 := m ((c : Thread nD τ).loc main_arg0)
def argW (c : Dev nD) : S128x16.Idx → Elt F .f32 := m ((c : Thread nD τ).loc main_arg1)
def argI (c : Dev nD) : S256x1.Idx → Elt F .i32 := m ((c : Thread nD τ).loc main_arg2)
def argE (c : Dev nD) : S2x128x256.Idx → Elt F .f32 := m ((c : Thread nD τ).loc main_arg3)
def argS (c : Dev nD) : S128x256.Idx → Elt F .f32 := m ((c : Thread nD τ).loc main_arg4)

/-- What every device sends: its partial of every row. -/
abbrev sent : Dev nD → S256x256.Idx → Elt F .bf16 := parts (argX m) (argW m) (argI m) (argE m)
/-- What device `c` ends with. -/
def result (c : Dev nD) : S32x256.Idx → Elt F .f32 := devOut c (argX m c) (argS m c) (landed (sent m) c)

/-- What device `c`'s body starts from, but for its buffers. -/
def start (c : Dev nD) : sProp 𝕄 := iprop(∃ K, records (sent m) K ∗ linear c ∗ credits c)

def scratch (c : Dev nD) : sProp 𝕄 := iprop((∃ f, held c cc0_scratch0 f) ∗ ∃ f, held c cc0_scratch1 f)
def zeros (c : Dev nD) : sProp 𝕄 :=
  iprop(semVal (barCell c) 0 ∗ (bigSep Finset.univ fun k => semVal (sendCell c k) 0) ∗ bigSep Finset.univ fun s => semVal (recvCell c s) 0)

def dats (_ : Fin 1) (c : Dev nD) : Dat τ (Elt F) Unit ℕ UU ℕ cfg0 c where
  A w := m ((cfg0.win w).arr.view.loc (c : Thread nD τ))
  after w _ := match w with
    | ⟨0, _⟩ => argX m c
    | ⟨1, _⟩ => argW m c
    | ⟨2, _⟩ => argI m c
    | ⟨3, _⟩ => argE m c
    | ⟨4, _⟩ => argS m c
    | ⟨5, _⟩ => result m c
  Φ t := match t with
    | ⟨0, _⟩ => iprop(start m c ∗ scratch c)
    | ⟨_ + 1, _⟩ => iprop(scratch c ∗ zeros c)
  q _ := fullShare
  owed t := match t with
    | ⟨0, _⟩ => O₀ c
    | ⟨_ + 1, _⟩ => 0

/-! ## A whole window's block is its array -/

theorem blk_read0 (f : S256x128.Idx → Elt F .f32) : (win0_0.blk (0 : Fin 1)).view.read (Elt F) f = f :=
  funext fun i => congrArg f (funext fun a => Fin.ext (by match a with | ⟨0, _⟩ => (show 0 * 256 + 1 * _ = _; omega) | ⟨1, _⟩ => (show 0 * 128 + 1 * _ = _; omega)))
theorem blk_read1 (f : S128x16.Idx → Elt F .f32) : (win0_1.blk (0 : Fin 1)).view.read (Elt F) f = f :=
  funext fun i => congrArg f (funext fun a => Fin.ext (by match a with | ⟨0, _⟩ => (show 0 * 128 + 1 * _ = _; omega) | ⟨1, _⟩ => (show 0 * 16 + 1 * _ = _; omega)))
theorem blk_read2 (f : S256x1.Idx → Elt F .i32) : (win0_2.blk (0 : Fin 1)).view.read (Elt F) f = f :=
  funext fun i => congrArg f (funext fun a => Fin.ext (by match a with | ⟨0, _⟩ => (show 0 * 256 + 1 * _ = _; omega) | ⟨1, _⟩ => (show 0 * 1 + 1 * _ = _; omega)))
theorem blk_read3 (f : S2x128x256.Idx → Elt F .f32) : (win0_3.blk (0 : Fin 1)).view.read (Elt F) f = f :=
  funext fun i => congrArg f (funext fun a => Fin.ext (by
    match a with | ⟨0, _⟩ => (show 0 * 2 + 1 * _ = _; omega) | ⟨1, _⟩ => (show 0 * 128 + 1 * _ = _; omega) | ⟨2, _⟩ => (show 0 * 256 + 1 * _ = _; omega)))
theorem blk_read4 (f : S128x256.Idx → Elt F .f32) : (win0_4.blk (0 : Fin 1)).view.read (Elt F) f = f :=
  funext fun i => congrArg f (funext fun a => Fin.ext (by match a with | ⟨0, _⟩ => (show 0 * 128 + 1 * _ = _; omega) | ⟨1, _⟩ => (show 0 * 256 + 1 * _ = _; omega)))
theorem blk_emb5 (i : S32x256.Idx) : (win0_5.blk (0 : Fin 1)).view.emb i = i :=
  funext fun a => Fin.ext (by match a with | ⟨0, _⟩ => (show 0 * 32 + 1 * _ = _; omega) | ⟨1, _⟩ => (show 0 * 256 + 1 * _ = _; omega))
theorem blk_read5 (f : S32x256.Idx → Elt F .f32) : (win0_5.blk (0 : Fin 1)).view.read (Elt F) f = f :=
  funext fun i => congrArg f (blk_emb5 i)

theorem before0 (c : Dev nD) (d) : (dats m 0 c).before (0 : Fin 6) t0_0 d = argX m c := by
  unfold Dat.before; rw [if_pos (fetch0_0 t0_0)]; exact blk_read0 (F := F) _
theorem before1 (c : Dev nD) (d) : (dats m 0 c).before (1 : Fin 6) t0_0 d = argW m c := by
  unfold Dat.before; rw [if_pos (fetch0_1 t0_0)]; exact blk_read1 (F := F) _
theorem before2 (c : Dev nD) (d) : (dats m 0 c).before (2 : Fin 6) t0_0 d = argI m c := by
  unfold Dat.before; rw [if_pos (fetch0_2 t0_0)]; exact blk_read2 (F := F) _
theorem before3 (c : Dev nD) (d) : (dats m 0 c).before (3 : Fin 6) t0_0 d = argE m c := by
  unfold Dat.before; rw [if_pos (fetch0_3 t0_0)]; exact blk_read3 (F := F) _
theorem before4 (c : Dev nD) (d) : (dats m 0 c).before (4 : Fin 6) t0_0 d = argS m c := by
  unfold Dat.before; rw [if_pos (fetch0_4 t0_0)]; exact blk_read4 (F := F) _

/-- The result array after the run. -/
theorem final_result (c : Dev nD) : (dats m 0 c).arrAt (5 : Fin 6) cfg0.N = result m c :=
  (dats m 0 c).arrAt_eq_of_cover (5 : Fin 6) (result m c)
    (fun t _ => by rw [fin_N0 t]; exact (blk_read5 (result m c)).symm)
    (fun i => ⟨t0_0, flush0_5 t0_0, by rw [← blk_emb5 i]; exact View.emb_mem_set _ _⟩)

/-! ## The body's obligation -/

theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ held c b f) := by
  unfold owns held; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) ((c : Thread nD τ).loc b), ⌜f = X⌝ ∗ held c b f)

theorem stg_held (c : Dev nD) (b : Ref sig .tc) (X : b.ty.Contents (Elt F)) : (stg c b X : sProp 𝕄) ⊢ held c b X := by
  iintro ⟨%f, %h, H⟩; subst h; iexact H
theorem held_stg (c : Dev nD) (b : Ref sig .tc) (X : b.ty.Contents (Elt F)) : (held c b X : sProp 𝕄) ⊢ stg c b X := by
  iintro H; iexists X; isplitr; · (ipureintro; rfl)
  iexact H
theorem before_held (c : Dev nD) (b : Ref sig .tc) {ι : Type} (B : ι → b.ty.Contents (Elt F)) (X : b.ty.Contents (Elt F)) (h : ∀ d, B d = X) :
    (iprop(∃ d, stg c b (B d)) : sProp 𝕄) ⊢ held c b X := by
  iintro ⟨%d, H⟩; rw [h d]; iapply (stg_held c b X); iexact H

def owingPre (c : Dev nD) : sProp 𝕄 := (dats m 0 c).owesAt () t0_0.castSucc
def owingPost (c : Dev nD) : sProp 𝕄 := (dats m 0 c).owesAt () t0_0.succ
theorem owing_pre (c : Dev nD) : owingPre m c ⊢ (owing c (O₀ c) : sProp 𝕄) := by
  unfold owingPre owing Dat.owesAt Pipeline.owesWithin
  iintro ⟨%W, -, H⟩; iexists W; iexact H
theorem owing_post (c : Dev nD) : (owing c 0 : sProp 𝕄) ⊢ owingPost m c := by
  unfold owingPost owing Dat.owesAt Pipeline.owesWithin
  iintro ⟨%W, H⟩; iexists W; isplitr; · (ipureintro; exact fun _ _ => Or.inl trivial)
  iexact H

def obliPre (c : Dev nD) : sProp 𝕄 :=
  iprop((start m c ∗ scratch c) ∗ owingPre m c
    ∗ (∃ d, stg c cc0_stg0_0 ((dats m 0 c).before (0 : Fin 6) t0_0 d)) ∗ (∃ d, stg c cc0_stg1_0 ((dats m 0 c).before (1 : Fin 6) t0_0 d))
    ∗ (∃ d, stg c cc0_stg2_0 ((dats m 0 c).before (2 : Fin 6) t0_0 d)) ∗ (∃ d, stg c cc0_stg3_0 ((dats m 0 c).before (3 : Fin 6) t0_0 d))
    ∗ (∃ d, stg c cc0_stg4_0 ((dats m 0 c).before (4 : Fin 6) t0_0 d)) ∗ (∃ d, stg c cc0_stg5_0 ((dats m 0 c).before (5 : Fin 6) t0_0 d)))
def obliPost (c : Dev nD) : sProp 𝕄 :=
  iprop((scratch c ∗ zeros c) ∗ owingPost m c ∗ stg c cc0_stg0_0 (argX m c) ∗ stg c cc0_stg1_0 (argW m c) ∗ stg c cc0_stg2_0 (argI m c)
    ∗ stg c cc0_stg3_0 (argE m c) ∗ stg c cc0_stg4_0 (argS m c) ∗ stg c cc0_stg5_0 (result m c))

theorem obli_pre (c : Dev nD) : obliPre m c ⊢ (iprop(∃ K, bodyPre K c (argX m) (argW m) (argI m) (argE m) (argS m)) : sProp 𝕄) := by
  unfold obliPre start scratch bodyPre
  iintro ⟨⟨⟨%K, HR, HL, HC⟩, H0, H1⟩, HO, Hx, Hw, Hi, He, Hs, ⟨%d, Ho⟩⟩
  iexists K
  isplitl [HR]; · iexact HR
  isplitl [HL]; · iexact HL
  isplitl [HC]; · iexact HC
  isplitl [HO]; · iapply (owing_pre m c); iexact HO
  isplitl [H0]; · iexact H0
  isplitl [H1]; · iexact H1
  isplitl [Hx]; · iapply (before_held c cc0_stg0_0 _ _ (before0 m c)); iexact Hx
  isplitl [Hw]; · iapply (before_held c cc0_stg1_0 _ _ (before1 m c)); iexact Hw
  isplitl [Hi]; · iapply (before_held c cc0_stg2_0 _ _ (before2 m c)); iexact Hi
  isplitl [He]; · iapply (before_held c cc0_stg3_0 _ _ (before3 m c)); iexact He
  isplitl [Hs]; · iapply (before_held c cc0_stg4_0 _ _ (before4 m c)); iexact Hs
  iexists _; iapply (stg_held c cc0_stg5_0 _); iexact Ho

theorem obli_post (c : Dev nD) : (bodyPost c (argX m) (argW m) (argI m) (argE m) (argS m) : sProp 𝕄) ⊢ obliPost m c := by
  unfold obliPost scratch zeros bodyPost
  iintro ⟨⟨H0, H1, HB, HS, HV⟩, HO, Hx, Hw, Hi, He, Hs, Ho⟩
  isplitl [H0 H1 HB HS HV]
  · isplitl [H0 H1]
    · isplitl [H0]; · iexact H0
      iexact H1
    isplitl [HB]; · iexact HB
    isplitl [HS]; · iexact HS
    iexact HV
  isplitl [HO]; · iapply (owing_post m c); iexact HO
  isplitl [Hx]; · iapply (held_stg c cc0_stg0_0 _); iexact Hx
  isplitl [Hw]; · iapply (held_stg c cc0_stg1_0 _); iexact Hw
  isplitl [Hi]; · iapply (held_stg c cc0_stg2_0 _); iexact Hi
  isplitl [He]; · iapply (held_stg c cc0_stg3_0 _); iexact He
  isplitl [Hs]; · iapply (held_stg c cc0_stg4_0 _); iexact Hs
  iapply (held_stg c cc0_stg5_0 _); unfold result; iexact Ho

set_option maxRecDepth 4000 in
/-- The body's obligation, at the launch's proof data. -/
theorem body_obligation (c : Dev nD) : BodyObligation (dats (F := F) m 0 c) (defs₀ (F := F)) 𝒱₀ () Set.univ := fun t => by
  rw [fin_N0 t]
  rw [bigSep_W0, bigSep_W0]
  simp only [owns_stage]
  show obliPre m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_stg4_0) (Memref.isWhole_whole _)
      (Memref.whole cc0_stg5_0) (Memref.isWhole_whole _) (Memref.whole cc0_scratch0) (Memref.isWhole_whole _) (Memref.whole cc0_scratch1) (Memref.isWhole_whole _)
      cc0_scratch2 cc0_scratch3) (fun _ => obliPost m c)
  iintro H
  ihave H := (obli_pre m c) $$ H
  icases H with ⟨%K, H⟩
  iapply (sound_body K c (argX m) (argW m) (argI m) (argE m) (argS m) fun _ => obliPost m c)
  isplitl [H]; · iexact H
  iintro H; iapply (obli_post m c); iexact H

/-! ## The launch -/

theorem own_facts : Pipeline.OwnSemFacts cfg0.spec osem := by decide

theorem share_full (c : Dev nD) (w : Fin cfg0.W) : (dats m 0 c).share w = fullShare := by unfold Dat.share; split <;> rfl

def u₀ : UU := (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (sent m) c)
      ⊢ |={Set.univ}=> iprop(start m c ∗ emp) := by
  unfold start G' known records
  iintro ⟨-, Hlev, Hcr, -, ⟨%K, ⟨HI, HR⟩, HL⟩⟩
  ihave Hc := (credits_intro (F := F) c) $$ Hcr
  imodintro
  isplitl
  · iexists K
    isplitl [HI HR Hlev]
    · isplitl [HI]; · iexact HI
      isplitl [HR]; · iexact HR
      iexact Hlev
    isplitl [HL]; · iexact HL
    iexact Hc
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq]
  unfold scratch held
  iintro ⟨Hs, -, Hr⟩
  isplitl [Hs]; · iexact Hs
  iexact Hr

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(scratch c ∗ zeros c) from rfl, scopedRest0_eq]
  unfold scratch zeros held
  iintro ⟨Hr, Hz⟩
  ihave Hz := (Entails.of_eq ((cells_split (F := F) fun sm => semVal ((c : Thread nD τ), sm) 0).symm.trans (sems0_eq (F := F) c).symm)) $$ Hz
  icases Hz with ⟨Hu, Ho⟩
  isplitl [Hu]; · iexact Hu
  isplitl [Ho]; · iexact Ho
  iexact Hr

theorem stage_waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

set_option maxRecDepth 8000 in
/-- Every weakly fair execution of the mesh from zero counters terminates without a fault; at the end every window's
    array holds the computed contents and every semaphore counter is zero. -/
theorem run_arrays : θ_run defs (onTc (τ := τ) (main (F := F))) ⟨m, fun _ => 0, ρ⟩
    (fun r => (∀ c : Dev nD, ∀ w : Fin cfg0.W, r.2.mem ((cfg0.win w).arr.view.loc (c : Thread nD τ)) = (dats m 0 c).arrAt w cfg0.N) ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := stage_waits m)
    (G := G (sent m)) (G' := G' (sent m)) (u₀ := u₀)
    (hu₀ := by
      unfold u₀
      iintro Hu
      ihave H := (ownU_pair _ _) $$ Hu
      icases H with ⟨HP, HX⟩
      imod (fund_cells (sent m)) $$ HX with HG
      imodintro
      isplitl [HP] <;> iassumption)
    (hglob := glob (sent m))
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The run, array by array: on every device the result holds `result`, the five arguments hold what they held, and
    every semaphore counter is zero. -/
theorem run_main : θ_run defs (onTc (τ := τ) (main (F := F))) ⟨m, fun _ => 0, ρ⟩ (fun r =>
    (∀ c : Dev nD, r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => ⟨(h.1 c (5 : Fin 6)).trans (final_result m c),
    (h.1 c (0 : Fin 6)).trans ((dats m 0 c).arrAt_in (0 : Fin 6) rfl _), (h.1 c (1 : Fin 6)).trans ((dats m 0 c).arrAt_in (1 : Fin 6) rfl _),
    (h.1 c (2 : Fin 6)).trans ((dats m 0 c).arrAt_in (2 : Fin 6) rfl _), (h.1 c (3 : Fin 6)).trans ((dats m 0 c).arrAt_in (3 : Fin 6) rfl _),
    (h.1 c (4 : Fin 6)).trans ((dats m 0 c).arrAt_in (4 : Fin 6) rfl _)⟩, h.2⟩) (run_arrays m ρ)

/-- The run with the values dropped. -/
theorem run_frame : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => (h.1 c).2, h.2⟩) (run_main m ρ)

end Cert.Route

end
-- ==== Proof.Experts.lean ====
/-
# The mathematics of the layer

Over the extended reals: the router's probabilities, an expert's product, what a token whose index is the word `w` gets
of its expert, and that the devices' shares, two experts each, add up to it.
-/
module

public import proofs.«01_k».proof.Proof.Values
public import Idealize.ShloMosaic.Lib.Pointwise

@[expose] public section

noncomputable section

namespace Cert.Route

open Cert.KernelIdeal
open Idealize.ShloMosaic

/-! ## The router and the experts -/

/-- The router's score of expert `e` for token `t`. -/
def score (x : S256x128.Idx → Elt Ideal .f32) (rw' : S128x16.Idx → Elt Ideal .f32) (t : Fin 256) (e : Fin 16) : EReal :=
  ∑ k : Fin 128, x (ix2 t k) * rw' (ix2 k e)

/-- The largest score of token `t`. -/
def peak (x : S256x128.Idx → Elt Ideal .f32) (rw' : S128x16.Idx → Elt Ideal .f32) (t : Fin 256) : EReal :=
  Finset.univ.fold max (Ideal.ofBits .f32 0xFF800000#32) (score x rw' t)

/-- The score's exponential, the largest score taken off. -/
def lift (x : S256x128.Idx → Elt Ideal .f32) (rw' : S128x16.Idx → Elt Ideal .f32) (t : Fin 256) (e : Fin 16) : EReal :=
  Ideal.exp (score x rw' t e - peak x rw' t)

/-- The probability of expert `e` for token `t`. -/
def prob (x : S256x128.Idx → Elt Ideal .f32) (rw' : S128x16.Idx → Elt Ideal .f32) (t : Fin 256) (e : Fin 16) : EReal :=
  Ideal.div (lift x rw' t e) (∑ e', lift x rw' t e')

/-- Component `h` of token `t` through one expert's matrix `E`. -/
def through (x : S256x128.Idx → Elt Ideal .f32) (E : Fin 128 → Fin 256 → EReal) (t h : Fin 256) : EReal :=
  ∑ k : Fin 128, x (ix2 t k) * E k h

/-- Expert `e`'s matrix. -/
def expert (ew : (⟨3, ![16, 128, 256]⟩ : Shape).Idx → Elt Ideal .f32) (e : Fin 16) (k : Fin 128) (h : Fin 256) : EReal := ew (ix3 e k h)

/-! ## Words -/

/-- A chosen expert's entry; nothing for a word that names none. -/
def chosen (w : BitVec 32) (f : Fin 16 → EReal) : EReal := if h : w.toNat < 16 then f ⟨w.toNat, h⟩ else 0

/-- A word's equality with a small number. -/
theorem word_eq (w : BitVec 32) (n : ℕ) (hn : n < 16) : w = BitVec.ofNat 32 n ↔ w.toNat = n := by
  constructor
  · rintro rfl; simp [BitVec.toNat_ofNat]; omega
  · intro h; apply BitVec.eq_of_toNat_eq; simp [BitVec.toNat_ofNat, h]; omega

/-- Adding up a table's entries whose number is the word finds the word's entry. -/
theorem sum_picked (w : BitVec 32) (p : Fin 16 → EReal) :
    ∑ e : Fin 16, Scalar.select (IntOp.cmpi .eq (BitVec.ofNat 32 e.val) w) (p e) 0 = chosen w p := by
  have hs : ∀ e : Fin 16, Scalar.select (IntOp.cmpi .eq (BitVec.ofNat 32 e.val) w) (p e) 0 = if w.toNat = e.val then p e else 0 := by
    intro e
    by_cases h : w.toNat = e.val
    · have hw := (word_eq w e.val e.isLt).mpr h
      subst hw
      simp [Scalar.select, IntOp.cmpi, h]
    · have hw : BitVec.ofNat 32 e.val ≠ w := fun hw => h ((word_eq w e.val e.isLt).mp hw.symm)
      simp [Scalar.select, IntOp.cmpi, h, beq_false_of_ne hw]
  rw [Finset.sum_congr rfl fun e _ => hs e]
  unfold chosen
  split_ifs with h
  · rw [Finset.sum_eq_single ⟨w.toNat, h⟩ (fun e _ he => if_neg fun hw => he (Fin.ext hw.symm)) (fun hn => absurd (Finset.mem_univ _) hn)]
    exact if_pos rfl
  · exact Finset.sum_eq_zero fun e _ => if_neg fun hw : w.toNat = e.val => h (hw ▸ e.isLt)

/-- A comparison as the number it is widened to. -/
theorem mask_eq (a b : BitVec 32) :
    (FloatOps.sitofp (F := Ideal) .f32 ((IntOp.cmpi .eq a b).setWidth 32) : EReal) = if a = b then 1 else 0 := by
  by_cases h : a = b
  · simp [IntOp.cmpi, h, FloatOps.sitofp]
  · simp [IntOp.cmpi, h, beq_false_of_ne h, FloatOps.sitofp]

/-! ## The devices' shares -/

/-- One device's two experts' share of a token whose index is `w`, weighted by `p`. -/
def two (w : BitVec 32) (p : EReal) (f : Fin 16 → EReal) (d : Fin 8) : EReal :=
  p * ((if w.toNat = 2 * d.val then 1 else 0) * f ⟨2 * d.val, by omega⟩
    + (if w.toNat = 2 * d.val + 1 then 1 else 0) * f ⟨2 * d.val + 1, by omega⟩)

/-- Over the eight devices the shares add up to the chosen expert's weighted entry. -/
theorem sum_two (w : BitVec 32) (p f : Fin 16 → EReal) :
    ∑ d : Fin 8, two w (chosen w p) f d = chosen w fun e => p e * f e := by
  unfold two chosen
  split_ifs with h
  · rw [Finset.sum_eq_single ⟨w.toNat / 2, by omega⟩]
    · rcases Nat.mod_two_eq_zero_or_one w.toNat with hm | hm
      · have h0 : w.toNat = 2 * (w.toNat / 2) := by omega
        have h1 : ¬ w.toNat = 2 * (w.toNat / 2) + 1 := by omega
        have hf : (⟨2 * (w.toNat / 2), by omega⟩ : Fin 16) = ⟨w.toNat, h⟩ := Fin.ext h0.symm
        simp only [hf]
        rw [if_pos h0, if_neg h1, one_mul, zero_mul, add_zero]
      · have h0 : ¬ w.toNat = 2 * (w.toNat / 2) := by omega
        have h1 : w.toNat = 2 * (w.toNat / 2) + 1 := by omega
        have hf : (⟨2 * (w.toNat / 2) + 1, by omega⟩ : Fin 16) = ⟨w.toNat, h⟩ := Fin.ext h1.symm
        simp only [hf]
        rw [if_neg h0, if_pos h1, one_mul, zero_mul, zero_add]
    · intro d _ hd
      have hv : d.val ≠ w.toNat / 2 := fun hv => hd (Fin.ext hv)
      rw [if_neg (by omega), if_neg (by omega), zero_mul, zero_mul, add_zero, mul_zero]
    · exact fun hn => absurd (Finset.mem_univ _) hn
  · exact Finset.sum_eq_zero fun d _ => zero_mul _

end Cert.Route

end
-- ==== Proof.Partial.lean ====
/-
# What a device computes, read at an index

Over the extended reals: the partial result of one device, its two experts a block of the sixteen; and the result of one
device once all eight partials have landed.
-/
module

public import proofs.«01_k».proof.Proof.Experts
public import proofs.«01_k».proof.Proof.Body
public import Idealize.ShloMosaic.Lib.Layout

@[expose] public section

set_option maxRecDepth 16384

noncomputable section

namespace Cert.Route

open Cert.KernelIdeal Cert.KernelIdeal.Gen
open Idealize.ShloMosaic

/-- The weight column: for each token the probability of the expert its index names, and nothing where it names none. -/
theorem weight_apply (x : S256x128.Idx → Elt Ideal .f32) (rw' : S128x16.Idx → Elt Ideal .f32) (ix : S256x1.Idx → Elt Ideal .i32) (t : Fin 256) :
    k0_pay3 x rw' ix (ix2 t 0) = chosen (ix (ix2 t 0)) (prob x rw' t) := by
  rw [← sum_picked]
  pointwise [k0_pay2, k0_pay3]
  rfl

/-- The words the kernel compares a token's index with. -/
theorem first_word (c : Dev nD) : Scalar.muli (2#32) (devWord c) = BitVec.ofNat 32 (2 * c.val) := by revert c; decide
theorem second_word (c : Dev nD) : Scalar.addi (Scalar.muli (2#32) (devWord c)) 1#32 = BitVec.ofNat 32 (2 * c.val + 1) := by revert c; decide

/-- The comparison with a small number, widened to a number. -/
theorem hit_eq (w : BitVec 32) (n : ℕ) (hn : n < 16) :
    (FloatOps.sitofp (F := Ideal) .f32 ((IntOp.cmpi .eq w (BitVec.ofNat 32 n)).setWidth 32) : EReal) = if w.toNat = n then 1 else 0 :=
  (mask_eq _ _).trans (if_congr (word_eq w n hn) rfl rfl)

/-- Device `c`'s block of the sixteen expert matrices. -/
abbrev shard (EW : (⟨3, ![16, 128, 256]⟩ : Shape).Idx → Elt Ideal .f32) (c : Fin 8) : S2x128x256.Idx → Elt Ideal .f32 :=
  Layout.block ⟨3, ![2, 128, 256]⟩ ⟨3, ![16, 128, 256]⟩ 0 8 c EW

/-- Matrix `s` of device `c`'s block is expert `2 c + s`. -/
theorem block_expert (c : Fin 8) (s : Fin 2) (EW : (⟨3, ![16, 128, 256]⟩ : Shape).Idx → Elt Ideal .f32) (k : Fin 128) (h : Fin 256) :
    shard EW c (ix3 s k h) = expert EW ⟨2 * c.val + s.val, by omega⟩ k h := by
  refine congrArg EW (funext fun a => Fin.ext ?_)
  rw [Layout.Tiles.idx_val]
  match a with
  | ⟨0, _⟩ => show c.val * 2 + s.val = 2 * c.val + s.val; omega
  | ⟨1, _⟩ => rfl
  | ⟨2, _⟩ => rfl

/-- The partial result of device `c`: the weighted product with one of its two experts, where the token's index names
    one of them. -/
theorem devPart_apply (c : Dev nD) (x : S256x128.Idx → Elt Ideal .f32) (rw' : S128x16.Idx → Elt Ideal .f32) (ix : S256x1.Idx → Elt Ideal .i32)
    (EW : (⟨3, ![16, 128, 256]⟩ : Shape).Idx → Elt Ideal .f32) (t h : Fin 256) :
    devPart c x rw' ix (shard EW c) (ix2 t h)
      = two (ix (ix2 t 0)) (chosen (ix (ix2 t 0)) (prob x rw' t)) (fun e => through x (expert EW e) t h) c := by
  have hs : ∀ (s : Fin 2) (k : Fin 128), slab s (shard EW c) (ix3 0 k h)
      = expert EW ⟨2 * c.val + s.val, by have : c.val < 8 := c.isLt; omega⟩ k h := fun s k =>
    (congrArg (shard EW c) (funext fun a => by
      match a with
      | ⟨0, _⟩ => rfl
      | ⟨1, _⟩ => rfl
      | ⟨2, _⟩ => rfl)).trans (block_expert c s EW k h)
  unfold devPart two
  pointwise [k0_pay1, k0_pay2, k0_pay4, k0_pay5, k0_pay6, k0_pay7]
  rw [weight_apply, second_word, first_word, hit_eq _ _ (by have : c.val < 8 := c.isLt; omega), hit_eq _ _ (by have : c.val < 8 := c.isLt; omega)]
  simp only [hs]
  rfl

/-- Adding up the landed slots adds up every device's partial result of the row. -/
theorem sum_landed (part : Dev nD → S256x256.Idx → Elt Ideal .bf16) (c : Dev nD) (r : Fin 32) (h : Fin 256) :
    ∑ s : Fin 8, (landed part c (ix3 s r h) : EReal) = ∑ d : Fin 8, (part d (rowIx c r h) : EReal) :=
  Fintype.sum_bijective (sh c) ⟨fun k k' e => sh_inj c k k' e, sh_surj c⟩ _ _ fun _ => rfl

/-- Row `r` of device `c`'s result is row `32 c + r` of the layer: the shared expert's product, and the weighted product
    with the expert the token's index names. -/
theorem devOut_apply (c : Dev nD) (x : S256x128.Idx → Elt Ideal .f32) (rw' : S128x16.Idx → Elt Ideal .f32) (ix : S256x1.Idx → Elt Ideal .i32)
    (EW : (⟨3, ![16, 128, 256]⟩ : Shape).Idx → Elt Ideal .f32) (sw : S128x256.Idx → Elt Ideal .f32)
    (r : Fin 32) (h : Fin 256) (t : Fin 256) (ht : t.val = 32 * c.val + r.val) :
    devOut c x sw (landed (parts (fun _ => x) (fun _ => rw') (fun _ => ix)
        (shard EW)) c) (ix2 r h)
      = through x (fun k h => sw (ix2 k h)) t h
        + chosen (ix (ix2 t 0)) fun e => prob x rw' t e * through x (expert EW e) t h := by
  have hrow : rowIx c r h = ix2 t h := funext fun a => Fin.ext (by
    match a with
    | ⟨0, _⟩ => exact ht.symm
    | ⟨1, _⟩ => rfl)
  have hown : ∀ k : Fin 128, ownRows c x (ix2 r k) = x (ix2 t k) := fun k => congrArg x (funext fun a => Fin.ext (by
    match a with
    | ⟨0, _⟩ => exact ht.symm
    | ⟨1, _⟩ => rfl))
  have hsum : ∑ s : Fin 8, (landed (parts (fun _ => x) (fun _ => rw') (fun _ => ix)
        (shard EW)) c (ix3 s r h) : EReal)
      = chosen (ix (ix2 t 0)) fun e => prob x rw' t e * through x (expert EW e) t h := by
    rw [sum_landed, ← sum_two, hrow]
    exact Finset.sum_congr rfl fun d _ => devPart_apply d x rw' ix EW t h
  rw [← hsum]
  unfold devOut
  pointwise [k0_pay9, k0_pay10, k0_pay11]
  simp only [hown]
  rfl

end Cert.Route

end
-- ==== Proof.Refval.lean ====
/-
# What the reference computes, read at an index

Over the extended reals: the softmax of the router's scores, the two reads by the token's index (along a row of the
probabilities, and of a whole expert matrix), and the result.
-/
module

public import proofs.«01_k».proof.Proof.Experts
public import proofs.«01_k».proof.Proof.Gen.ReferenceIdeal

@[expose] public section

set_option maxRecDepth 16384

noncomputable section

namespace Cert.Route

open Cert.ReferenceIdeal Cert.ReferenceIdeal.Gen
open Idealize.ShloMosaic

/-! ## Reads by the token's index -/

section Reads

variable {α : Type}

/-- The probabilities' read takes, in row `t`, the entry the row's index word names when it names one. -/
theorem pick_apply (p : S256x16.Idx → α) (w : IVec S256x1x1 32) (t : Fin 256) (h : (w (ix3 t 0 0)).toInt.toNat < 16) :
    Host.gather gather_S256x16_S256x1x1_S256x1_n_1_0_0_1_2_11 p w (ix2 t 0) = p (ix2 t ⟨(w (ix3 t 0 0)).toInt.toNat, h⟩) := by
  set d := gather_S256x16_S256x1x1_S256x1_n_1_0_0_1_2_11 with hd
  refine congrArg p (funext fun a => Fin.ext ?_)
  show d.start (ix2 t 0) w a + d.batchCoord (ix2 t 0) a + d.offCoord (ix2 t 0) a = _
  match a with
  | ⟨0, _⟩ =>
    have hb : (0 : Fin 2) ∈ d.operandBatchingDims := List.mem_singleton.mpr rfl
    have h1 : d.start (ix2 t 0) w (0 : Fin 2) = 0 := GatherDims.start_batching _ _ _ _ hb
    have h2 : d.offCoord (ix2 t 0) (0 : Fin 2) = 0 := GatherDims.offCoord_eq_zero _ _ _ fun h' => ((GatherDims.mem_sKept _ _).mp h').2 hb
    have h3 : d.batchCoord (ix2 t 0) (0 : Fin 2) = t.val := by unfold GatherDims.batchCoord; rw [dif_pos hb]; rfl
    exact (congrArg₂ (· + ·) (congrArg₂ (· + ·) h1 h3) h2).trans (by show 0 + t.val + 0 = t.val; omega)
  | ⟨1, _⟩ =>
    have hc : (1 : Fin 2) ∈ d.collapsedSliceDims := List.mem_singleton.mpr rfl
    have hm : (1 : Fin 2) ∈ d.startIndexMap := List.mem_singleton.mpr rfl
    have h2 : d.offCoord (ix2 t 0) (1 : Fin 2) = 0 := GatherDims.offCoord_eq_zero _ _ _ fun h' => ((GatherDims.mem_sKept _ _).mp h').1 hc
    have h3 : d.batchCoord (ix2 t 0) (1 : Fin 2) = 0 := GatherDims.batchCoord_eq_zero _ _ _ (by decide)
    have hsi : d.siIdx (ix2 t 0) ⟨List.idxOf (1 : Fin 2) d.startIndexMap, List.idxOf_lt_length_iff.2 hm⟩ = ix3 t 0 0 :=
      funext fun b => Fin.ext (by
        match b with
        | ⟨0, _⟩ => rfl
        | ⟨1, _⟩ => rfl
        | ⟨2, _⟩ => rfl)
    have h1 : d.start (ix2 t 0) w (1 : Fin 2) = (w (ix3 t 0 0)).toInt.toNat := by
      unfold GatherDims.start
      rw [dif_pos hm, hsi]
      show min (w (ix3 t 0 0)).toInt.toNat 15 = _
      omega
    exact congrArg₂ (· + ·) (congrArg₂ (· + ·) h1 h3) h2

/-- The experts' read takes, for token `t`, the matrix the token's index word names when it names one. -/
theorem take_apply (E : S16x128x256.Idx → α) (w : IVec S256x1 32) (t : Fin 256) (k : Fin 128) (h : Fin 256) (hw : (w (ix2 t 0)).toInt.toNat < 16) :
    Host.gather gather_S16x128x256_S256x1_S256x128x256_12_0_n_n_0_1_1128256 E w (ix3 t k h) = E (ix3 ⟨(w (ix2 t 0)).toInt.toNat, hw⟩ k h) := by
  set d := gather_S16x128x256_S256x1_S256x128x256_12_0_n_n_0_1_1128256 with hd
  refine congrArg E (funext fun a => Fin.ext ?_)
  show d.start (ix3 t k h) w a + d.batchCoord (ix3 t k h) a + d.offCoord (ix3 t k h) a = _
  have hm : (0 : Fin 3) ∈ d.startIndexMap := List.mem_singleton.mpr rfl
  have hb : ∀ a : Fin 3, d.batchCoord (ix3 t k h) a = 0 := fun a => GatherDims.batchCoord_eq_zero _ _ _ List.not_mem_nil
  match a with
  | ⟨0, _⟩ =>
    have hc : (0 : Fin 3) ∈ d.collapsedSliceDims := List.mem_singleton.mpr rfl
    have h2 : d.offCoord (ix3 t k h) (0 : Fin 3) = 0 := GatherDims.offCoord_eq_zero _ _ _ fun h' => ((GatherDims.mem_sKept _ _).mp h').1 hc
    have hsi : d.siIdx (ix3 t k h) ⟨List.idxOf (0 : Fin 3) d.startIndexMap, List.idxOf_lt_length_iff.2 hm⟩ = ix2 t 0 :=
      funext fun b => Fin.ext (by
        match b with
        | ⟨0, _⟩ => rfl
        | ⟨1, _⟩ => rfl)
    have h1 : d.start (ix3 t k h) w (0 : Fin 3) = (w (ix2 t 0)).toInt.toNat := by
      unfold GatherDims.start
      rw [dif_pos hm, hsi]
      show min (w (ix2 t 0)).toInt.toNat 15 = _
      omega
    exact congrArg₂ (· + ·) (congrArg₂ (· + ·) h1 (hb 0)) h2
  | ⟨1, _⟩ =>
    have h1 : d.start (ix3 t k h) w (1 : Fin 3) = 0 := by unfold GatherDims.start; exact dif_neg (by decide)
    have h2 : d.offCoord (ix3 t k h) (1 : Fin 3) = k.val := by unfold GatherDims.offCoord; rw [dif_pos (by decide)]; rfl
    exact (congrArg₂ (· + ·) (congrArg₂ (· + ·) h1 (hb 1)) h2).trans (by show 0 + 0 + k.val = k.val; omega)
  | ⟨2, _⟩ =>
    have h1 : d.start (ix3 t k h) w (2 : Fin 3) = 0 := by unfold GatherDims.start; exact dif_neg (by decide)
    have h2 : d.offCoord (ix3 t k h) (2 : Fin 3) = h.val := by unfold GatherDims.offCoord; rw [dif_pos (by decide)]; rfl
    exact (congrArg₂ (· + ·) (congrArg₂ (· + ·) h1 (hb 2)) h2).trans (by show 0 + 0 + h.val = h.val; omega)

end Reads

/-! ## The softmax -/

/-- The router's scores as the reference computes them. -/
abbrev refScores (x : S256x128.Idx → Elt Ideal .f32) (rw' : S128x16.Idx → Elt Ideal .f32) : FVec Ideal S256x16 .f32 :=
  Host.dotGeneral (φ₁ := .f32) (φ₂ := .f32) dot_S256x128_S128x16_S256x16_1_0_0_1_n_n none x rw'

/-- Their exponentials, each row's largest score taken off. -/
abbrev refLifts (x : S256x128.Idx → Elt Ideal .f32) (rw' : S128x16.Idx → Elt Ideal .f32) : FVec Ideal S256x16 .f32 :=
  Host.exp (subf (refScores x rw') (broadcastInDim S256x16 ![0, 1] bcast_S256x1_S256x16_0_1 (broadcastInDim S256x1 ![0] bcast_S256_S256x1_0
    (Host.reduce FloatOps.maximumf (refScores x rw') (constant S_ .f32 0xFF800000#32) reducesTo_S256x16_S256_d1 h_S_))))

/-- The probabilities: each row divided by its sum. -/
abbrev refProbs (x : S256x128.Idx → Elt Ideal .f32) (rw' : S128x16.Idx → Elt Ideal .f32) : FVec Ideal S256x16 .f32 :=
  Host.divf (refLifts x rw') (broadcastInDim S256x16 ![0, 1] bcast_S256x1_S256x16_0_1 (broadcastInDim S256x1 ![0] bcast_S256_S256x1_0
    (Host.reduceAdd (refLifts x rw') (constant S_ .f32 0x00000000#32) reducesTo_S256x16_S256_d1 h_S_)))

/-- The reference's exponentials at an index, -/
theorem refLifts_apply (x : S256x128.Idx → Elt Ideal .f32) (rw' : S128x16.Idx → Elt Ideal .f32) (t : Fin 256) (e : Fin 16) :
    refLifts x rw' (ix2 t e) = lift x rw' t e := by
  unfold lift peak
  pointwise [refLifts, refScores]
  rfl

/-- and its probabilities. -/
theorem refProbs_apply (x : S256x128.Idx → Elt Ideal .f32) (rw' : S128x16.Idx → Elt Ideal .f32) (t : Fin 256) (e : Fin 16) :
    refProbs x rw' (ix2 t e) = prob x rw' t e := by
  unfold prob lift peak
  pointwise [refProbs, refLifts, refScores]
  rfl

/-! ## The result -/

/-- Whether each token's index names an expert. -/
abbrev refNamed (ix : S256x1.Idx → Elt Ideal .i32) : IVec S256x1 1 :=
  andi (cmpi .sge ix (broadcastInDim S256x1 ![] bcast_S_S256x1 (constantI S_ 32 0#32))) (cmpi .slt ix (broadcastInDim S256x1 ![] bcast_S_S256x1 (constantI S_ 32 16#32)))

/-- The probabilities of the experts the tokens' indices name. -/
abbrev refWeight (x : S256x128.Idx → Elt Ideal .f32) (rw' : S128x16.Idx → Elt Ideal .f32) (ix : S256x1.Idx → Elt Ideal .i32) : FVec Ideal S256x1 .f32 :=
  Host.gather gather_S256x16_S256x1x1_S256x1_n_1_0_0_1_2_11 (refProbs x rw') (shapeCast _ (select (cmpi .slt ix (broadcastInDim S256x1 ![] bcast_S_S256x1 (constantI S_ 32 0#32)))
    (addi ix (broadcastInDim S256x1 ![] bcast_S_S256x1 (constantI S_ 32 16#32))) ix) shapeCasts_S256x1_S256x1x1)

/-- Every token through the expert its index names. -/
abbrev refRouted (x : S256x128.Idx → Elt Ideal .f32) (ix : S256x1.Idx → Elt Ideal .i32) (ew : S16x128x256.Idx → Elt Ideal .f32) : FVec Ideal S256x256 .f32 :=
  Host.dotGeneral (φ₁ := .f32) (φ₂ := .f32) dot_S256x128_S256x128x256_S256x256_1_1_n_2_0_0 none x
    (Host.gather gather_S16x128x256_S256x1_S256x128x256_12_0_n_n_0_1_1128256 ew (broadcastInDim S256x1 ![0] bcast_S256_S256x1_0 (shapeCast _ ix shapeCasts_S256x1_S256)))

/-- What a token gets of the expert its index names: nothing where it names none. -/
abbrev refShare (x : S256x128.Idx → Elt Ideal .f32) (rw' : S128x16.Idx → Elt Ideal .f32) (ix : S256x1.Idx → Elt Ideal .i32)
    (ew : S16x128x256.Idx → Elt Ideal .f32) : FVec Ideal S256x256 .f32 :=
  select (broadcastInDim S256x256 ![0, 1] bcast_S256x1_S256x256_0_1 (refNamed ix))
    (mulf (broadcastInDim S256x256 ![0, 1] bcast_S256x1_S256x256_0_1 (refWeight x rw' ix)) (refRouted x ix ew))
    (broadcastInDim S256x256 ![] bcast_S_S256x256 (id (constant S_ .f32 0x00000000#32)))

/-- The reference's result. -/
abbrev refOut (x : S256x128.Idx → Elt Ideal .f32) (rw' : S128x16.Idx → Elt Ideal .f32) (ix : S256x1.Idx → Elt Ideal .i32)
    (ew : S16x128x256.Idx → Elt Ideal .f32) (sw : S128x256.Idx → Elt Ideal .f32) : FVec Ideal S256x256 .f32 :=
  addf (Host.dotGeneral (φ₁ := .f32) (φ₂ := .f32) dot_S256x128_S128x256_S256x256_1_0_0_1_n_n none x sw) (refShare x rw' ix ew)

/-- A word below sixteen read as a signed number, -/
theorem toInt_small (w : BitVec 32) (h : w.toNat < 16) : w.toInt = w.toNat := by
  rw [BitVec.toInt_eq_toNat_cond]; split <;> omega

/-- which is never below zero, -/
theorem not_negative (w : BitVec 32) (h : w.toNat < 16) : IntOp.cmpi .slt w 0#32 = 0#1 := by
  have hz : (0#32 : BitVec 32).toInt = 0 := rfl
  have hn : ¬ w.toInt < (0#32 : BitVec 32).toInt := by rw [hz, toInt_small w h]; omega
  simp only [IntOp.cmpi, BitVec.slt, decide_eq_false hn]
  rfl

/-- and the two comparisons hold of exactly these words. -/
theorem named_eq (w : BitVec 32) : IntOp.andi (IntOp.cmpi .sge w 0#32) (IntOp.cmpi .slt w 16#32) = if w.toNat < 16 then 1#1 else 0#1 := by
  have hz : (0#32 : BitVec 32).toInt = 0 := rfl
  have hs : (16#32 : BitVec 32).toInt = 16 := rfl
  have hw := BitVec.toInt_eq_toNat_cond w
  have hlt := w.isLt
  simp only [IntOp.andi, IntOp.cmpi, BitVec.slt, BitVec.sle, hz, hs]
  by_cases h : w.toNat < 16
  · have h1 : 0 ≤ w.toInt := by rw [toInt_small w h]; omega
    have h2 : w.toInt < 16 := by rw [toInt_small w h]; omega
    rw [decide_eq_true h1, decide_eq_true h2, if_pos h]; rfl
  · rw [if_neg h]
    by_cases h1 : 0 ≤ w.toInt
    · have h2 : ¬ w.toInt < 16 := by split at hw <;> omega
      rw [decide_eq_true h1, decide_eq_false h2]; rfl
    · rw [decide_eq_false h1]; cases decide (w.toInt < 16) <;> rfl

/-- The weight at a token whose index names an expert. -/
theorem refWeight_apply (x : S256x128.Idx → Elt Ideal .f32) (rw' : S128x16.Idx → Elt Ideal .f32) (ix : S256x1.Idx → Elt Ideal .i32)
    (t : Fin 256) (h : (ix (ix2 t 0) : BitVec 32).toNat < 16) :
    refWeight x rw' ix (ix2 t 0) = prob x rw' t ⟨(ix (ix2 t 0) : BitVec 32).toNat, h⟩ := by
  have hw : (shapeCast S256x1x1 (select (cmpi .slt ix (broadcastInDim S256x1 ![] bcast_S_S256x1 (constantI S_ 32 0#32)))
      (addi ix (broadcastInDim S256x1 ![] bcast_S_S256x1 (constantI S_ 32 16#32))) ix) shapeCasts_S256x1_S256x1x1 : IVec S256x1x1 32) (ix3 t 0 0) = ix (ix2 t 0) := by
    pointwise []
    rw [not_negative _ h]
    rfl
  have hn : (ix (ix2 t 0) : BitVec 32).toInt.toNat = (ix (ix2 t 0) : BitVec 32).toNat := by rw [toInt_small _ h]; rfl
  refine (pick_apply (refProbs x rw') _ t (by rw [hw, hn]; exact h)).trans ?_
  rw [refProbs_apply]
  exact congrArg (prob x rw' t) (Fin.ext ((congrArg (fun w : BitVec 32 => w.toInt.toNat) hw).trans hn))

/-- The product at a token whose index names an expert. -/
theorem refRouted_apply (x : S256x128.Idx → Elt Ideal .f32) (ix : S256x1.Idx → Elt Ideal .i32) (ew : S16x128x256.Idx → Elt Ideal .f32)
    (t hh : Fin 256) (h : (ix (ix2 t 0) : BitVec 32).toNat < 16) :
    refRouted x ix ew (ix2 t hh) = through x (expert ew ⟨(ix (ix2 t 0) : BitVec 32).toNat, h⟩) t hh := by
  have hw : (broadcastInDim S256x1 ![0] bcast_S256_S256x1_0 (shapeCast S256 ix shapeCasts_S256x1_S256) : IVec S256x1 32) (ix2 t 0) = ix (ix2 t 0) := by
    pointwise []
  have hn : (ix (ix2 t 0) : BitVec 32).toInt.toNat = (ix (ix2 t 0) : BitVec 32).toNat := by rw [toInt_small _ h]; rfl
  have hg : ∀ k : Fin 128, Host.gather gather_S16x128x256_S256x1_S256x128x256_12_0_n_n_0_1_1128256 ew
      (broadcastInDim S256x1 ![0] bcast_S256_S256x1_0 (shapeCast _ ix shapeCasts_S256x1_S256)) (ix3 t k hh)
        = expert ew ⟨(ix (ix2 t 0) : BitVec 32).toNat, h⟩ k hh := fun k =>
    (take_apply ew _ t k hh (by rw [hw, hn]; exact h)).trans
      (congrArg (fun e => ew (ix3 e k hh)) (Fin.ext ((congrArg (fun w : BitVec 32 => w.toInt.toNat) hw).trans hn)))
  unfold through
  pointwise [refRouted]
  simp only [hg]
  try rfl

/-- A token's share of the chosen expert: its weighted entry. -/
theorem refShare_apply (x : S256x128.Idx → Elt Ideal .f32) (rw' : S128x16.Idx → Elt Ideal .f32) (ix : S256x1.Idx → Elt Ideal .i32)
    (ew : S16x128x256.Idx → Elt Ideal .f32) (t h : Fin 256) :
    refShare x rw' ix ew (ix2 t h) = chosen (ix (ix2 t 0)) fun e => prob x rw' t e * through x (expert ew e) t h := by
  have hs : refShare x rw' ix ew (ix2 t h)
      = Scalar.select (IntOp.andi (IntOp.cmpi .sge (ix (ix2 t 0)) 0#32) (IntOp.cmpi .slt (ix (ix2 t 0)) 16#32))
          (refWeight x rw' ix (ix2 t 0) * refRouted x ix ew (ix2 t h)) 0 := by
    unfold refShare
    generalize refWeight x rw' ix = a
    generalize refRouted x ix ew = b
    pointwise [refNamed, id_eq]
  rw [hs, named_eq]
  unfold chosen
  split_ifs with hw
  · rw [refWeight_apply x rw' ix t hw, refRouted_apply x ix ew t h hw]; rfl
  · rfl

/-- The reference's result at an index: the shared expert's product, and the weighted product with the expert the
    token's index names. -/
theorem refOut_apply (x : S256x128.Idx → Elt Ideal .f32) (rw' : S128x16.Idx → Elt Ideal .f32) (ix : S256x1.Idx → Elt Ideal .i32)
    (ew : S16x128x256.Idx → Elt Ideal .f32) (sw : S128x256.Idx → Elt Ideal .f32) (t h : Fin 256) :
    refOut x rw' ix ew sw (ix2 t h) = through x (fun k h => sw (ix2 k h)) t h
      + chosen (ix (ix2 t 0)) fun e => prob x rw' t e * through x (expert ew e) t h := by
  rw [← refShare_apply]
  unfold refOut
  generalize refShare x rw' ix ew = b
  unfold through
  pointwise []

end Cert.Route

end
-- ==== Proof.Equation.lean ====
/-
# The kernel's result is the reference's

Every device holding the tokens, the router, the indices and the shared matrix, and its own block of the expert
matrices: its result is its block of rows of the reference's result.
-/
module

public import proofs.«01_k».proof.Proof.Partial
public import proofs.«01_k».proof.Proof.Refval
public import proofs.«01_k».proof.Proof.Launch

@[expose] public section

noncomputable section

namespace Cert.Route

open Idealize.ShloMosaic Idealize.ShloMosaic.TcCoe
open Cert.KernelIdeal (S256x128 S128x16 S256x1 S128x256 nD τ sig)

/-- The result of device `c` is block `c` of the reference's result. -/
theorem result_eq (m : (ℓ : Loc nD τ sig) → Buf (Elt Ideal) ℓ) (x : S256x128.Idx → Elt Ideal .f32) (rw' : S128x16.Idx → Elt Ideal .f32)
    (ix : S256x1.Idx → Elt Ideal .i32) (EW : (⟨3, ![16, 128, 256]⟩ : Shape).Idx → Elt Ideal .f32) (sw : S128x256.Idx → Elt Ideal .f32)
    (hx : ∀ d, argX m d = x) (hw : ∀ d, argW m d = rw') (hi : ∀ d, argI m d = ix) (he : ∀ d, argE m d = shard EW d) (hs : ∀ d, argS m d = sw)
    (c : Dev nD) :
    result m c = Layout.block ⟨2, ![32, 256]⟩ ⟨2, ![256, 256]⟩ 0 8 c (refOut x rw' ix EW sw) := by
  funext i
  obtain ⟨r, h, rfl⟩ : ∃ (r : Fin 32) (h : Fin 256), i = ix2 r h := ⟨i 0, i 1, eq_ix2 i⟩
  have hc : c.val < 8 := c.isLt
  have hat : Layout.Tiles.idx (S := ⟨2, ![32, 256]⟩) (T := ⟨2, ![256, 256]⟩) (a := 0) (k := 8) (by decide) c (ix2 r h)
      = ix2 ⟨32 * c.val + r.val, by omega⟩ h := funext fun a => Fin.ext (by
    rw [Layout.Tiles.idx_val]
    match a with
    | ⟨0, _⟩ => show c.val * 32 + r.val = 32 * c.val + r.val; omega
    | ⟨1, _⟩ => rfl)
  have hsent : sent m = parts (fun _ => x) (fun _ => rw') (fun _ => ix) (shard EW) := by
    unfold sent
    rw [funext hx, funext hw, funext hi, funext he]
  unfold result
  rw [hx, hs, hsent, devOut_apply c x rw' ix EW sw r h ⟨32 * c.val + r.val, by omega⟩ rfl]
  exact ((congrArg (refOut x rw' ix EW sw) hat).trans (refOut_apply x rw' ix EW sw _ h)).symm

end Cert.Route

end
-- ==== Proof.lean ====
/-
# The certificate

The two programs of the kernel have one text, so its run is proved once, over any float values (Proof/Launch.lean), and
taken at the words and at the extended reals. The reference's run is read off its host operations. That the two compute
one function is Proof/Equation.lean's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem

section Same

variable [Cert.Kernel.Facts] [Cert.KernelIdeal.Facts]

/-- The body tables of the two programs agree, label by label. -/
theorem bodies_same : @Cert.Kernel.defs₀ Bits _ _ = @Cert.KernelIdeal.defs₀ Bits _ _ := by
  unfold Cert.Kernel.defs₀ Cert.KernelIdeal.defs₀
  refine congrArg Defs.onTc (funext fun l => funext fun x => ?_)
  match l, x with
  | 0, (_, _) => rfl

/-- So do the tables with the region's labels adjoined, and the program of each device is one text: the two programs
run alike. -/
theorem runs_same : θ_run (@Cert.Kernel.defs Bits _ _) (onTc (@Cert.Kernel.main Bits _)) =
    θ_run (@Cert.KernelIdeal.defs Bits _ _) (onTc (@Cert.KernelIdeal.main Bits _)) :=
  congrArg (fun D => θ_run (Pipeline.defs (@Cert.KernelIdeal.pcfgs Bits _) D) (onTc (@Cert.KernelIdeal.main Bits _)))
    bodies_same

end Same

/-- The kernel at the words: it terminates without fault, its arguments unchanged and every counter at zero. -/
theorem frame_kernel : Cert.quiescent_Kernel := fun m ρ _ => by
  rw [runs_same]
  exact Cert.Route.run_frame (F := Bits) m ρ

/-- The same at the extended reals. -/
theorem frame_kernel_ideal : Cert.quiescent_KernelIdeal := fun m ρ _ => Cert.Route.run_frame (F := Ideal) m ρ

/-- The reference terminates without fault, its arguments unchanged; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference compute the same function over the extended reals: each device ends with its block of rows of
the reference's result, which is given here as a term of the arguments. -/
theorem algebraic : Cert.algebraic_KernelIdeal_ReferenceIdeal := fun m g m' g' _ hm => by
  refine ⟨_, (θ_run Cert.KernelIdeal.defs _ _).mono (fun _ h c => ⟨(h.1 c).1.trans ?_, (h.1 c).2⟩)
      (Cert.Route.run_main (F := Ideal) m g),
    (θ_run Cert.ReferenceIdeal.defs _ _).mono (fun _ h => h 0) (Cert.ReferenceIdeal.Value.run (F := Ideal) m' g')⟩
  exact Cert.Route.result_eq m _ _ _ _ _ (fun d => (hm d).1) (fun d => (hm d).2.1) (fun d => (hm d).2.2.1) (fun d => (hm d).2.2.2.1)
    (fun d => (hm d).2.2.2.2) c

/-- Everything the certificate claims. -/
theorem claim : Cert.Claim := ⟨Cert.Kernel.Gen.facts, Cert.KernelIdeal.Gen.facts, Cert.ReferenceIdeal.Gen.facts,
  frame_kernel, frame_kernel_ideal, frame_reference, trivial, algebraic⟩

end Cert.Proof

end
